-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.HalfStatement Cert.KernelIdeal.S12x512
  ∧ IdealRules.bf16_pair.Statement Cert.KernelIdeal.S1x24x512 Cert.KernelIdeal.S1x12x512
  ∧ IdealRules.bf16_pair.HalfStatement Cert.KernelIdeal.S1x512
  ∧ IdealRules.bf16_pair.Statement Cert.KernelIdeal.S1x2x512 Cert.KernelIdeal.S1x1x512
  ∧ IdealRules.bf16_pair.Statement Cert.KernelIdeal.S1x26x512 Cert.KernelIdeal.S1x13x512
  ∧ IdealRules.bf16_pair.HalfStatement Cert.KernelIdeal.S1x24

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S512x512 : Shape := ⟨2, ![512, 512]⟩
abbrev S16x26x512 : Shape := ⟨3, ![16, 26, 512]⟩
abbrev S15 : Shape := ⟨1, ![15]⟩
abbrev S_ : Shape := ⟨0, ![]⟩
abbrev S1x2 : Shape := ⟨2, ![1, 2]⟩
abbrev S512x2 : Shape := ⟨2, ![512, 2]⟩
abbrev S1x24 : Shape := ⟨2, ![1, 24]⟩
abbrev S512x24 : Shape := ⟨2, ![512, 24]⟩
abbrev S24x256 : Shape := ⟨2, ![24, 256]⟩
abbrev S12x256 : Shape := ⟨2, ![12, 256]⟩
abbrev S1x256x512 : Shape := ⟨3, ![1, 256, 512]⟩
abbrev S256x512 : Shape := ⟨2, ![256, 512]⟩
abbrev S12x512 : Shape := ⟨2, ![12, 512]⟩
abbrev S1x512 : Shape := ⟨2, ![1, 512]⟩
abbrev S1x488 : Shape := ⟨2, ![1, 488]⟩
abbrev S16x13x512 : Shape := ⟨3, ![16, 13, 512]⟩
abbrev S1x12x512 : Shape := ⟨3, ![1, 12, 512]⟩
abbrev S1x24x512 : Shape := ⟨3, ![1, 24, 512]⟩
abbrev S1x1x512 : Shape := ⟨3, ![1, 1, 512]⟩
abbrev S1x2x512 : Shape := ⟨3, ![1, 2, 512]⟩
abbrev S1 : Shape := ⟨1, ![1]⟩
abbrev S1x26x512 : Shape := ⟨3, ![1, 26, 512]⟩
abbrev S26x512 : Shape := ⟨2, ![26, 512]⟩
abbrev S1x13x512 : Shape := ⟨3, ![1, 13, 512]⟩
abbrev S13x512 : Shape := ⟨2, ![13, 512]⟩
abbrev S24x512 : Shape := ⟨2, ![24, 512]⟩
abbrev S1x384 : Shape := ⟨2, ![1, 384]⟩
abbrev S512x384 : Shape := ⟨2, ![512, 384]⟩
abbrev S384x512 : Shape := ⟨2, ![384, 512]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S256x32, .f32⟩
  | .local _ .vmem, ⟨2, _⟩ => ⟨S512x1, .i32⟩
  | .local _ .vmem, ⟨3, _⟩ => ⟨S2x256x512, .f32⟩
  | .local _ .vmem, ⟨4, _⟩ => ⟨S512x512, .f32⟩
  | .local _ .vmem, ⟨5, _⟩ => ⟨S16x26x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [BitOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_92 : BitVec 32 := 1#32
  let v162 : BitVec 32 := Scalar.addi v2 c1_i32_92
  let c16_i32_93 : BitVec 32 := 16#32
  let v163 : BitVec 32 := Scalar.remsi v162 c16_i32_93
  let c1_i32_98 : BitVec 32 := 1#32
  let v164 : BitVec 32 := Scalar.muli v163 c1_i32_98
  let v165 : BitVec 32 := Scalar.addi c0_i32_99 v164
  v165.toNat
def k0_dev17 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_104 : BitVec 32 := 2#32
  let v174 : BitVec 32 := Scalar.addi v2 c2_i32_104
  let c16_i32_105 : BitVec 32 := 16#32
  let v175 : BitVec 32 := Scalar.remsi v174 c16_i32_105
  let c1_i32_110 : BitVec 32 := 1#32
  let v176 : BitVec 32 := Scalar.muli v175 c1_i32_110
  let v177 : BitVec 32 := Scalar.addi c0_i32_111 v176
  v177.toNat
def k0_dev18 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_116 : BitVec 32 := 3#32
  let v186 : BitVec 32 := Scalar.addi v2 c3_i32_116
  let c16_i32_117 : BitVec 32 := 16#32
  let v187 : BitVec 32 := Scalar.remsi v186 c16_i32_117
  let c1_i32_122 : BitVec 32 := 1#32
  let v188 : BitVec 32 := Scalar.muli v187 c1_i32_122
  let v189 : BitVec 32 := Scalar.addi c0_i32_123 v188
  v189.toNat
def k0_dev19 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_128 : BitVec 32 := 4#32
  let v198 : BitVec 32 := Scalar.addi v2 c4_i32_128
  let c16_i32_129 : BitVec 32 := 16#32
  let v199 : BitVec 32 := Scalar.remsi v198 c16_i32_129
  let c1_i32_134 : BitVec 32 := 1#32
  let v200 : BitVec 32 := Scalar.muli v199 c1_i32_134
  let v201 : BitVec 32 := Scalar.addi c0_i32_135 v200
  v201.toNat
def k0_dev20 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_140 : BitVec 32 := 5#32
  let v210 : BitVec 32 := Scalar.addi v2 c5_i32_140
  let c16_i32_141 : BitVec 32 := 16#32
  let v211 : BitVec 32 := Scalar.remsi v210 c16_i32_141
  let c1_i32_146 : BitVec 32 := 1#32
  let v212 : BitVec 32 := Scalar.muli v211 c1_i32_146
  let v213 : BitVec 32 := Scalar.addi c0_i32_147 v212
  v213.toNat
def k0_dev21 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_152 : BitVec 32 := 6#32
  let v222 : BitVec 32 := Scalar.addi v2 c6_i32_152
  let c16_i32_153 : BitVec 32 := 16#32
  let v223 : BitVec 32 := Scalar.remsi v222 c16_i32_153
  let c1_i32_158 : BitVec 32 := 1#32
  let v224 : BitVec 32 := Scalar.muli v223 c1_i32_158
  let v225 : BitVec 32 := Scalar.addi c0_i32_159 v224
  v225.toNat
def k0_dev22 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_164 : BitVec 32 := 7#32
  let v234 : BitVec 32 := Scalar.addi v2 c7_i32_164
  let c16_i32_165 : BitVec 32 := 16#32
  let v235 : BitVec 32 := Scalar.remsi v234 c16_i32_165
  let c1_i32_170 : BitVec 32 := 1#32
  let v236 : BitVec 32 := Scalar.muli v235 c1_i32_170
  let v237 : BitVec 32 := Scalar.addi c0_i32_171 v236
  v237.toNat
def k0_dev23 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_176 : BitVec 32 := 8#32
  let v246 : BitVec 32 := Scalar.addi v2 c8_i32_176
  let c16_i32_177 : BitVec 32 := 16#32
  let v247 : BitVec 32 := Scalar.remsi v246 c16_i32_177
  let c1_i32_182 : BitVec 32 := 1#32
  let v248 : BitVec 32 := Scalar.muli v247 c1_i32_182
  let v249 : BitVec 32 := Scalar.addi c0_i32_183 v248
  v249.toNat
def k0_dev24 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_188 : BitVec 32 := 9#32
  let v258 : BitVec 32 := Scalar.addi v2 c9_i32_188
  let c16_i32_189 : BitVec 32 := 16#32
  let v259 : BitVec 32 := Scalar.remsi v258 c16_i32_189
  let c1_i32_194 : BitVec 32 := 1#32
  let v260 : BitVec 32 := Scalar.muli v259 c1_i32_194
  let v261 : BitVec 32 := Scalar.addi c0_i32_195 v260
  v261.toNat
def k0_dev25 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_200 : BitVec 32 := 10#32
  let v270 : BitVec 32 := Scalar.addi v2 c10_i32_200
  let c16_i32_201 : BitVec 32 := 16#32
  let v271 : BitVec 32 := Scalar.remsi v270 c16_i32_201
  let c1_i32_206 : BitVec 32 := 1#32
  let v272 : BitVec 32 := Scalar.muli v271 c1_i32_206
  let v273 : BitVec 32 := Scalar.addi c0_i32_207 v272
  v273.toNat
def k0_dev26 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_212 : BitVec 32 := 11#32
  let v282 : BitVec 32 := Scalar.addi v2 c11_i32_212
  let c16_i32_213 : BitVec 32 := 16#32
  let v283 : BitVec 32 := Scalar.remsi v282 c16_i32_213
  let c1_i32_218 : BitVec 32 := 1#32
  let v284 : BitVec 32 := Scalar.muli v283 c1_i32_218
  let v285 : BitVec 32 := Scalar.addi c0_i32_219 v284
  v285.toNat
def k0_dev27 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_224 : BitVec 32 := 12#32
  let v294 : BitVec 32 := Scalar.addi v2 c12_i32_224
  let c16_i32_225 : BitVec 32 := 16#32
  let v295 : BitVec 32 := Scalar.remsi v294 c16_i32_225
  let c1_i32_230 : BitVec 32 := 1#32
  let v296 : BitVec 32 := Scalar.muli v295 c1_i32_230
  let v297 : BitVec 32 := Scalar.addi c0_i32_231 v296
  v297.toNat
def k0_dev28 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_236 : BitVec 32 := 13#32
  let v306 : BitVec 32 := Scalar.addi v2 c13_i32_236
  let c16_i32_237 : BitVec 32 := 16#32
  let v307 : BitVec 32 := Scalar.remsi v306 c16_i32_237
  let c1_i32_242 : BitVec 32 := 1#32
  let v308 : BitVec 32 := Scalar.muli v307 c1_i32_242
  let v309 : BitVec 32 := Scalar.addi c0_i32_243 v308
  v309.toNat
def k0_dev29 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_248 : BitVec 32 := 14#32
  let v318 : BitVec 32 := Scalar.addi v2 c14_i32_248
  let c16_i32_249 : BitVec 32 := 16#32
  let v319 : BitVec 32 := Scalar.remsi v318 c16_i32_249
  let c1_i32_254 : BitVec 32 := 1#32
  let v320 : BitVec 32 := Scalar.muli v319 c1_i32_254
  let v321 : BitVec 32 := Scalar.addi c0_i32_255 v320
  v321.toNat
def k0_dev30 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_260 : BitVec 32 := 15#32
  let v330 : BitVec 32 := Scalar.addi v2 c15_i32_260
  let c16_i32_261 : BitVec 32 := 16#32
  let v331 : BitVec 32 := Scalar.remsi v330 c16_i32_261
  let c1_i32_266 : BitVec 32 := 1#32
  let v332 : BitVec 32 := Scalar.muli v331 c1_i32_266
  let v333 : BitVec 32 := Scalar.addi c0_i32_267 v332
  v333.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F]
-- ==== ReferenceIdeal.lean ====
abbrev S512x256 : Shape := ⟨2, ![512, 256]⟩
abbrev S256x32 : Shape := ⟨2, ![256, 32]⟩
abbrev S512x1 : Shape := ⟨2, ![512, 1]⟩
abbrev S32x256x512 : Shape := ⟨3, ![32, 256, 512]⟩
abbrev S32 : Shape := ⟨1, ![32]⟩
abbrev S1x32 : Shape := ⟨2, ![1, 32]⟩
abbrev S512x32 : Shape := ⟨2, ![512, 32]⟩
abbrev S_ : Shape := ⟨0, ![]⟩
abbrev S32x512x512 : Shape := ⟨3, ![32, 512, 512]⟩
abbrev S32x512 : Shape := ⟨2, ![32, 512]⟩
abbrev S32x512x1 : Shape := ⟨3, ![32, 512, 1]⟩
abbrev S512x512 : Shape := ⟨2, ![512, 512]⟩

abbrev nBuf : Space → Nat
  | .hbm => 28
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x32, .f32⟩
  | .hbm, ⟨2, _⟩ => ⟨S512x1, .i32⟩
  | .hbm, ⟨3, _⟩ => ⟨S32x256x512, .f32⟩
  | .hbm, ⟨4, _⟩ => ⟨S32, .i32⟩
  | .hbm, ⟨5, _⟩ => ⟨S1x32, .i32⟩
  | .hbm, ⟨6, _⟩ => ⟨S512x32, .i32⟩
  | .hbm, ⟨7, _⟩ => ⟨S512x32, .i32⟩
  | .hbm, ⟨8, _⟩ => ⟨S512x32, .i1⟩
  | .hbm, ⟨9, _⟩ => ⟨S512x32, .i32⟩
  | .hbm, ⟨10, _⟩ => ⟨S_, .i32⟩
  | .hbm, ⟨11, _⟩ => ⟨S_, .i32⟩
  | .hbm, ⟨12, _⟩ => ⟨S512x32, .i32⟩
  | .hbm, ⟨13, _⟩ => ⟨S_, .i32⟩
  | .hbm, ⟨14, _⟩ => ⟨S512x32, .i32⟩
  | .hbm, ⟨15, _⟩ => ⟨S512x32, .i1⟩
  | .hbm, ⟨16, _⟩ => ⟨S512x32, .i1⟩
  | .hbm, ⟨17, _⟩ => ⟨S32x512x512, .f32⟩
  | .hbm, ⟨18, _⟩ => ⟨S32x512x512, .f32⟩
  | .hbm, ⟨19, _⟩ => ⟨S32x512, .i1⟩
  | .hbm, ⟨20, _⟩ => ⟨S32x512x1, .i1⟩
  | .hbm, ⟨21, _⟩ => ⟨S_, .f32⟩
  | .hbm, ⟨22, _⟩ => ⟨S_, .f32⟩
  | .hbm, ⟨23, _⟩ => ⟨S32x512x512, .i1⟩
  | .hbm, ⟨24, _⟩ => ⟨S32x512x512, .f32⟩
  | .hbm, ⟨25, _⟩ => ⟨S32x512x512, .f32⟩
  | .hbm, ⟨26, _⟩ => ⟨S_, .f32⟩
  | .hbm, ⟨27, _⟩ => ⟨S512x512, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.KernelValues.lean ====
/-
# The values on a device

What the text computes on one device from what it was given — its tokens, the experts they were sent to, its two experts'
weights — up to the two pieces stored in slot 0, and what it computes in the end from the sixteen blocks.
-/
module

public import proofs.«01_k».proof.Proof.KernelProto

@[expose] public section

set_option maxRecDepth 20000

noncomputable section

namespace Cert.KernelProof

open Cert.Kernel Cert.Kernel.Gen

open Idealize.ShloMosaic
open Idealize.ShloMosaic.TcCoe
open Idealize.SL.Sem

variable {F : FTy → Type} [BitOps F]

abbrev xM : Memref sig .tc .vmem S512x256 .f32 := Memref.whole cc0_stg0_0
abbrev rM : Memref sig .tc .vmem S256x32 .f32 := Memref.whole cc0_stg1_0
abbrev iM : Memref sig .tc .vmem S512x1 .i32 := Memref.whole cc0_stg2_0
abbrev wM : Memref sig .tc .vmem S2x256x512 .f32 := Memref.whole cc0_stg3_0
abbrev oM : Memref sig .tc .vmem S512x512 .f32 := Memref.whole cc0_stg4_0

/-- The places of the two experts' weights. -/
abbrev wR0 : Rect S2x256x512 := Rect.unit (s := S2x256x512) ![0, 0, 0] S1x256x512.size inb_S2x256x512_S1x256x512_0_0_0
abbrev wR1 : Rect S2x256x512 := Rect.unit (s := S2x256x512) ![1, 0, 0] S1x256x512.size inb_S2x256x512_S1x256x512_1_0_0
/-- The places in slot 0 of the rows and of the token numbers. -/
abbrev rowsR : Rect S16x26x512 := Rect.unit (s := S16x26x512) ![0, 0, 0] S1x24x512.size inb_S16x26x512_S1x24x512_0_0_0
abbrev idsR : Rect S16x26x512 := Rect.unit (s := S16x26x512) ![0, 24, 0] S1x2x512.size inb_S16x26x512_S1x2x512_0_24_0

/-! ## Before the exchange -/

section Before

variable (c : Dev nD) (X : Vec F S512x256 .f32) (I : Vec F S512x1 .i32) (E : Vec F S2x256x512 .f32)

/-- The device's number. -/
def pos : BitVec 32 := Scalar.remsi (Scalar.divsi (Dev.word c) 1#32) 16#32
/-- Which tokens go to this device's experts. -/
def mine : Vec F S512x2 .f32 := k0_pay3 (pos c) I
/-- How many went there up to each token. -/
def count : Vec F S512x2 .f32 := k0_pay4 (pos c) I
/-- Half. -/
def half : Vec F S512x2 .f32 := k0_pay5
/-- Which token sits at which of the 24 places. -/
def place : Vec F S512x24 .f32 := k0_pay6 (mine c I) (count c I) half
/-- The first expert's rows. -/
def rows0 : Vec F S12x512 .f32 := k0_pay8 (mine c I) (count c I) half X (wM.view.readAt (Elt F) wR0.toLoadRect E)
/-- The second expert's tokens. -/
def toks1 : Vec F S12x256 .f32 := k0_pay9 (mine c I) (count c I) half X
/-- The second expert's weights. -/
def wts1 : Vec F S256x512 .f32 := k0_pay10 (wM.view.readAt (Elt F) wR1.toLoadRect E)
/-- The rows as stored. -/
def rowsSt : Vec F S1x24x512 .bf16 := k0_pay11 (rows0 c X I E) (toks1 c X I) (wts1 E) (constant S12x512 .f32 0x00000000#32)
/-- The token numbers as stored. -/
def idsSt : Vec F S1x2x512 .bf16 := k0_pay12 (place c I)

/-- The buffer after the two stores, from what it held before. -/
def stored (f : (cc0_scratch0 : Ref sig .tc).ty.Contents (Elt F)) : (cc0_scratch0 : Ref sig .tc).ty.Contents (Elt F) :=
  (gM.access idsR).write (Elt F) ((gM.access rowsR).write (Elt F) f (rowsSt c X I E) Finset.univ) (idsSt c I) Finset.univ

/-- In slot 0 nothing is left of what the buffer held before. -/
theorem stored_slot (f f' : (cc0_scratch0 : Ref sig .tc).ty.Contents (Elt F)) (i : S16x26x512.Idx) (hi : i ∈ slotSet 0) :
    stored c X I E f i = stored c X I E f' i := by
  have hi0 := (mem_slotSet 0 i).mp hi
  have e1 : (gM.access rowsR).set = rowsR.set := View.set_slice_whole _ _
  have e2 : (gM.access idsR).set = idsR.set := View.set_slice_whole _ _
  unfold stored
  by_cases h2 : i ∈ (gM.access idsR).set
  · obtain ⟨x, -, rfl⟩ := Finset.mem_map.mp h2
    rw [View.write_emb_of_mem _ _ (Finset.mem_univ x), View.write_emb_of_mem _ _ (Finset.mem_univ x)]
  · rw [View.write_of_not_mem _ _ _ h2, View.write_of_not_mem _ _ _ h2]
    have h1 : i ∈ (gM.access rowsR).set := by
      rw [e1]; rw [e2] at h2
      refine Rect.mem_set_unit.mpr fun a => ?_
      have i1 := (i 1).isLt; have i2 := (i 2).isLt
      have h24 : ¬ 24 ≤ (i 1).val := fun hle => h2 (Rect.mem_set_unit.mpr fun a => by
        fin_cases a
        · simp [S1x2x512, hi0]
        · simp [S1x2x512]; exact ⟨hle, by simpa using i1⟩
        · simp [S1x2x512]; exact i2)
      fin_cases a
      · simp [S1x24x512, hi0]
      · simp [S1x24x512]; omega
      · simp [S1x24x512]; exact i2
    obtain ⟨x, -, rfl⟩ := Finset.mem_map.mp h1
    rw [View.write_emb_of_mem _ _ (Finset.mem_univ x), View.write_emb_of_mem _ _ (Finset.mem_univ x)]

theorem rows_slot (i : S16x26x512.Idx) (hi : i ∈ rowsR.set) : i ∈ slotSet 0 := by
  have h := Rect.mem_set_unit.mp hi 0
  refine (mem_slotSet 0 i).mpr ?_
  simp [S1x24x512] at h; simp [h]
theorem ids_slot (i : S16x26x512.Idx) (hi : i ∈ idsR.set) : i ∈ slotSet 0 := by
  have h := Rect.mem_set_unit.mp hi 0
  refine (mem_slotSet 0 i).mpr ?_
  simp [S1x2x512] at h; simp [h]

end Before

/-! ## After it -/

/-- A slot's rows, the first expert's and then the second's. -/
def slotRows (b : Vec F S1x26x512 .bf16) : Vec F S24x512 .bf16 := k0_pay15 b
/-- A slot's token numbers. -/
def slotIds (b : Vec F S1x26x512 .bf16) : Vec F S1x24 .f32 := k0_pay16 b

/-- The sixteen slots' token numbers, one after the other. -/
def allIds (b : Fin 16 → Vec F S1x26x512 .bf16) : Vec F S1x384 .f32 :=
  concatenate S1x384 1 [⟨S1x24, slotIds (b 0)⟩, ⟨S1x24, slotIds (b 1)⟩, ⟨S1x24, slotIds (b 2)⟩, ⟨S1x24, slotIds (b 3)⟩, ⟨S1x24, slotIds (b 4)⟩, ⟨S1x24, slotIds (b 5)⟩, ⟨S1x24, slotIds (b 6)⟩, ⟨S1x24, slotIds (b 7)⟩, ⟨S1x24, slotIds (b 8)⟩, ⟨S1x24, slotIds (b 9)⟩, ⟨S1x24, slotIds (b 10)⟩, ⟨S1x24, slotIds (b 11)⟩, ⟨S1x24, slotIds (b 12)⟩, ⟨S1x24, slotIds (b 13)⟩, ⟨S1x24, slotIds (b 14)⟩, ⟨S1x24, slotIds (b 15)⟩] concatenates_S1x24_S1x24_S1x24_S1x24_S1x24_S1x24_S1x24_S1x24_S1x24_S1x24_S1x24_S1x24_S1x24_S1x24_S1x24_S1x24_S1x384_d1

/-- The sixteen slots' rows, one after the other. -/
def allRows (b : Fin 16 → Vec F S1x26x512 .bf16) : Vec F S384x512 .bf16 :=
  concatenate S384x512 0 [⟨S24x512, slotRows (b 0)⟩, ⟨S24x512, slotRows (b 1)⟩, ⟨S24x512, slotRows (b 2)⟩, ⟨S24x512, slotRows (b 3)⟩, ⟨S24x512, slotRows (b 4)⟩, ⟨S24x512, slotRows (b 5)⟩, ⟨S24x512, slotRows (b 6)⟩, ⟨S24x512, slotRows (b 7)⟩, ⟨S24x512, slotRows (b 8)⟩, ⟨S24x512, slotRows (b 9)⟩, ⟨S24x512, slotRows (b 10)⟩, ⟨S24x512, slotRows (b 11)⟩, ⟨S24x512, slotRows (b 12)⟩, ⟨S24x512, slotRows (b 13)⟩, ⟨S24x512, slotRows (b 14)⟩, ⟨S24x512, slotRows (b 15)⟩] concatenates_S24x512_S24x512_S24x512_S24x512_S24x512_S24x512_S24x512_S24x512_S24x512_S24x512_S24x512_S24x512_S24x512_S24x512_S24x512_S24x512_S384x512_d0

/-- The result from the sixteen slots. -/
def outOf (b : Fin 16 → Vec F S1x26x512 .bf16) : Vec F S512x512 .f32 := k0_pay2 (k0_pay1 k0_pay13 (allIds b)) (allRows b)

/-- The sixteen slots of device `c` when all have landed: its own block, then those of the devices after it. -/
def slots (B : Dev nD → Vec F S1x26x512 .bf16) (c : Dev nD) (s : Fin 16) : Vec F S1x26x512 .bf16 :=
  Fin.cases (motive := fun _ => Vec F S1x26x512 .bf16) (B c) (fun j => B (aft c j)) s

end Cert.KernelProof

end
-- ==== Proof.KernelParts.lean ====
/-
# The parts of the kernel's text

For each part of the text, what it takes the device from and to. `R` is whatever else the device holds, `k` what the text
does with the part's values.
-/
module

public import proofs.«01_k».proof.Proof.KernelSteps
public import proofs.«01_k».proof.Proof.KernelValues
public import proofs.«01_k».proof.Proof.Gen.Kernel.Skeleton

@[expose] public section

set_option maxRecDepth 20000

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ UU ℕ

/-- The text `p` on device `c`, with what holds after it. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole staging buffer of device `c`. -/
def stgPts (c : Dev nD) (b : Ref sig .tc) (f : b.ty.Contents (Elt F)) : sProp 𝕄 := ((c : Thread nD τ).loc b) ↦{fullShare} f

variable (W : Dev nD → (cc0_scratch0 : Ref sig .tc).ty.Contents (Elt F))
variable (K : Dev nD × Option (Fin 15 ⊕ Fin 15) → ℕ)

/-- An entailment into a text's last value. -/
theorem run_ret (c : Dev nD) {α : Type} {P : sProp 𝕄} {a : α} {Q : α → sProp 𝕄} (h : P ⊢ Q a) : P ⊢ run c (.ret a) Q := by
  unfold run; rw [wp_ret]; exact h.trans fupd_intro

/-- A part of the text at the buffers and semaphores of the launch. -/
abbrev here {β : Type 1} (p : (a0 : Memref sig .tc .vmem S512x256 .f32) → a0.IsWhole → (a1 : Memref sig .tc .vmem S256x32 .f32) → a1.IsWhole
    → (a2 : Memref sig .tc .vmem S512x1 .i32) → a2.IsWhole → (a3 : Memref sig .tc .vmem S2x256x512 .f32) → a3.IsWhole
    → (a4 : Memref sig .tc .vmem S512x512 .f32) → a4.IsWhole → (a5 : Memref sig .tc .vmem S16x26x512 .bf16) → a5.IsWhole
    → DmaSems sig S15 → DmaSems sig S15 → β) : β :=
  p xM (Memref.isWhole_whole _) rM (Memref.isWhole_whole _) iM (Memref.isWhole_whole _) wM (Memref.isWhole_whole _)
    oM (Memref.isWhole_whole _) gM (Memref.isWhole_whole _) cc0_scratch1 cc0_scratch2

/-- The barrier's semaphore, as the text passes it on. -/
abbrev barSs : Sems sig S_ := SemArray.scalar (sig.barrier 0 rfl)

section Parts
variable (c : Dev nD)

/-! ## The signals and the loads -/

/-- Signals 0 to 4. -/
theorem part1_run {α : Type} {Q : α → sProp 𝕄} (R : sProp 𝕄) {k}
    (h : ∀ u v, iprop(ctx W K ∗ sigSt c 5 ∗ R) ⊢ run c (k ⟨c, pos c, barSs, u, v⟩) Q) :
    iprop(ctx W K ∗ sigSt c 0 ∗ R) ⊢ run c (here (k0_part1 (F := F)) >>= k) Q := by
  rw [k0_part1_eq_skeleton]; unfold k0_part1_skel run
  simp only [semSignalWord, semWaitWord, Prog.lift, Prog.bind_op, Prog.bind_ret, Prog.pure_eq_ret, wp_deviceId]
  refine signal_step W K c R 0 _ (Fin.ext (k0_dev1_eq c)) ?_
  refine signal_step W K c R 1 _ (Fin.ext (k0_dev2_eq c)) ?_
  refine signal_step W K c R 2 _ (Fin.ext (k0_dev3_eq c)) ?_
  refine signal_step W K c R 3 _ (Fin.ext (k0_dev4_eq c)) ?_
  refine signal_step W K c R 4 _ (Fin.ext (k0_dev5_eq c)) ?_
  exact h _ _

/-- Signals 5 to 10. -/
theorem part2_run {α : Type} {Q : α → sProp 𝕄} (R : sProp 𝕄) {u v} {k}
    (h : ∀ r, iprop(ctx W K ∗ sigSt c 11 ∗ R) ⊢ run c (k r) Q) :
    iprop(ctx W K ∗ sigSt c 5 ∗ R) ⊢ run c (here (k0_part2 (F := F)) c (pos c) barSs u v >>= k) Q := by
  rw [k0_part2_eq_skeleton]; unfold k0_part2_skel run
  simp only [semSignalWord, semWaitWord, Prog.lift, Prog.bind_op, Prog.bind_ret, Prog.pure_eq_ret, wp_deviceId]
  refine signal_step W K c R 5 _ (Fin.ext (k0_dev6_eq c)) ?_
  refine signal_step W K c R 6 _ (Fin.ext (k0_dev7_eq c)) ?_
  refine signal_step W K c R 7 _ (Fin.ext (k0_dev8_eq c)) ?_
  refine signal_step W K c R 8 _ (Fin.ext (k0_dev9_eq c)) ?_
  refine signal_step W K c R 9 _ (Fin.ext (k0_dev10_eq c)) ?_
  refine signal_step W K c R 10 _ (Fin.ext (k0_dev11_eq c)) ?_
  exact h _

/-- Signals 11 to 14, and the experts the tokens go to. -/
theorem part3_run {α : Type} {Q : α → sProp 𝕄} (R : sProp 𝕄) (I : Vec F S512x1 .i32) {u v} {k}
    (h : iprop(ctx W K ∗ sigSt c 15 ∗ stgPts c cc0_stg2_0 I ∗ R) ⊢ run c (k ⟨mine c I, count c I, half⟩) Q) :
    iprop(ctx W K ∗ sigSt c 11 ∗ stgPts c cc0_stg2_0 I ∗ R) ⊢ run c (here (k0_part3 (F := F)) c (pos c) barSs u v >>= k) Q := by
  rw [k0_part3_eq_skeleton]; unfold k0_part3_skel run
  simp only [semSignalWord, semWaitWord, Prog.lift, Prog.bind_op, Prog.bind_ret, Prog.pure_eq_ret, wp_deviceId]
  refine signal_step W K c _ 11 _ (Fin.ext (k0_dev12_eq c)) ?_
  refine signal_step W K c _ 12 _ (Fin.ext (k0_dev13_eq c)) ?_
  refine signal_step W K c _ 13 _ (Fin.ext (k0_dev14_eq c)) ?_
  refine signal_step W K c _ 14 _ (Fin.ext (k0_dev15_eq c)) ?_
  have hz : (![0, 0] : Fin 2 → ℕ) = fun _ => 0 := funext fun a => by fin_cases a <;> rfl
  have hr : (iM : Memref sig .tc .vmem S512x1 .i32).view.readAt (Elt F) (Rect.unit (s := S512x1) ![0, 0] S512x1.size inb_S512x1_S512x1_0_0).toLoadRect I = I :=
    Memref.readAt_unit_zero (Elt F) cc0_stg2_0 hz _ I
  unfold stgPts at *
  iintro ⟨HC, HS, HI, HR⟩
  iapply (wp_load 𝒱₀ (c : Thread nD τ) none Set.univ (m := iM) (Finset.subset_univ _)) $$ HI
  iintro HI
  rw [hr]
  iapply h
  isplitl [HC]; · iexact HC
  isplitl [HS]; · iexact HS
  isplitl [HI] <;> iassumption

/-- The tokens and the weights. -/
theorem part4_run {α : Type} {Q : α → sProp 𝕄} (R : sProp 𝕄) (X : Vec F S512x256 .f32) (I : Vec F S512x1 .i32) (E : Vec F S2x256x512 .f32) {k}
    (h : iprop(stgPts c cc0_stg0_0 X ∗ stgPts c cc0_stg3_0 E ∗ R)
      ⊢ run c (k ⟨place c I, rows0 c X I E, toks1 c X I, wts1 E, constant S12x512 .f32 0x00000000#32⟩) Q) :
    iprop(stgPts c cc0_stg0_0 X ∗ stgPts c cc0_stg3_0 E ∗ R)
      ⊢ run c (here (k0_part4 (F := F)) (mine c I) (count c I) half >>= k) Q := by
  rw [k0_part4_eq_skeleton]; unfold k0_part4_skel run
  simp only [semSignalWord, semWaitWord, Prog.lift, Prog.bind_op, Prog.bind_ret, Prog.pure_eq_ret, wp_deviceId]
  have hz : (![0, 0] : Fin 2 → ℕ) = fun _ => 0 := funext fun a => by fin_cases a <;> rfl
  have hr : (xM : Memref sig .tc .vmem S512x256 .f32).view.readAt (Elt F) (Rect.unit (s := S512x256) ![0, 0] S512x256.size inb_S512x256_S512x256_0_0).toLoadRect X = X :=
    Memref.readAt_unit_zero (Elt F) cc0_stg0_0 hz _ X
  unfold stgPts at *
  iintro ⟨HX, HE, HR⟩
  iapply (wp_load 𝒱₀ (c : Thread nD τ) none Set.univ (m := xM) (Finset.subset_univ _)) $$ HX
  iintro HX
  iapply (wp_load 𝒱₀ (c : Thread nD τ) none Set.univ (m := wM) (Finset.subset_univ _)) $$ HE
  iintro HE
  iapply (wp_load 𝒱₀ (c : Thread nD τ) none Set.univ (m := wM) (Finset.subset_univ _)) $$ HE
  iintro HE
  rw [hr]
  iapply h
  isplitl [HX]; · iexact HX
  isplitl [HE] <;> iassumption

/-! ## The two stores and the barrier -/

/-- What the device holds for the copies before the barrier: its own tokens for them. -/
def sendToks : sProp 𝕄 :=
  bigSep Finset.univ fun k => iprop(dutyTok ER (sendCell c k) 0 0 ∗ dutyTok ER (recvCell (aft c k) k.rev) 0 0)

omit [BitOps F] in
/-- The tokens for the copies and the slots they go to, copy by copy. -/
theorem sendToks_barPay : iprop((sendToks c : sProp 𝕄) ∗ bigSep Finset.univ fun k => barPay c k)
    ⊢ bigSep Finset.univ fun k => iprop(dutyTok ER (sendCell c k) 0 0 ∗ dutyTok ER (recvCell (aft c k) k.rev) 0 0 ∗ barPay c k) := by
  unfold sendToks
  refine BIBase.Entails.trans (Entails.of_eq (bigSep_sep Finset.univ _ _).symm) (bigSep_mono fun k _ => ?_)
  show iprop((dutyTok ER (sendCell c k) 0 0 ∗ dutyTok ER (recvCell (aft c k) k.rev) 0 0) ∗ barPay c k)
    ⊢ iprop(dutyTok ER (sendCell c k) 0 0 ∗ dutyTok ER (recvCell (aft c k) k.rev) 0 0 ∗ barPay c k)
  iintro ⟨⟨H1, H2⟩, H3⟩
  isplitl [H1]; · iexact H1
  isplitl [H2] <;> iassumption

/-- The two stores into slot 0 leave it holding the device's block. -/
theorem store_step {α : Type} {Q : α → sProp 𝕄} (R : sProp 𝕄) (X : Vec F S512x256 .f32) (I : Vec F S512x1 .i32) (E : Vec F S2x256x512 .f32) (f)
    (f₀) (hW : W c = stored c X I E f₀) {l1 l2 s1 s2 m1 m2} {cont : PUnit → Prog (TpuEff nD τ sig (Elt F) Λ₀ .tc) α}
    (h : iprop(slotPts c 0 fullShare (W c) ∗ R) ⊢ run c (cont ⟨⟩) Q) :
    iprop(slotPts c 0 fullShare f ∗ R)
      ⊢ run c (.op (.load gM rowsR.toLoadRect l1) fun _ => .op (.store gM rowsR (rowsSt c X I E) Finset.univ s1 m1) fun _ =>
          .op (.load gM idsR.toLoadRect l2) fun _ => .op (.store gM idsR (idsSt c I) Finset.univ s2 m2) cont) Q := by
  have hs1 : (gM : Memref sig .tc .vmem S16x26x512 .bf16).view.setOn rowsR.toLoadRect.set ⊆ slotSet 0 := fun i hi => by
    obtain ⟨x, hx, rfl⟩ := Finset.mem_map.mp hi
    exact rows_slot x hx
  have hs2 : (gM : Memref sig .tc .vmem S16x26x512 .bf16).view.setOn idsR.toLoadRect.set ⊆ slotSet 0 := fun i hi => by
    obtain ⟨x, hx, rfl⟩ := Finset.mem_map.mp hi
    exact ids_slot x hx
  have e1 : (gM.access rowsR).set = rowsR.set := View.set_slice_whole _ _
  have e2 : (gM.access idsR).set = idsR.set := View.set_slice_whole _ _
  have ht1 : (gM.access rowsR).setOn Finset.univ ⊆ slotSet 0 := fun i hi => rows_slot i (e1 ▸ hi)
  have ht2 : (gM.access idsR).setOn Finset.univ ⊆ slotSet 0 := fun i hi => ids_slot i (e2 ▸ hi)
  have hst : (((gM.access idsR).loc (c : Thread nD τ) ↦[slotSet 0]{fullShare}
      ((gM.access idsR).write (Elt F) ((gM.access rowsR).write (Elt F) f (rowsSt c X I E) Finset.univ) (idsSt c I) Finset.univ)) : sProp 𝕄)
        = slotPts c 0 fullShare (W c) := by
    rw [hW]; unfold slotPts; exact pointsTo_congr (stored_slot c X I E f f₀)
  iintro ⟨Hs, HR⟩
  unfold run at *
  iapply (wp_load 𝒱₀ (c : Thread nD τ) none Set.univ (m := gM) (r := rowsR.toLoadRect) (S := slotSet 0) (f := f) hs1) $$ [Hs]
  · unfold slotPts; iexact Hs
  iintro Hs
  iapply (wp_store 𝒱₀ (c : Thread nD τ) none Set.univ (m := gM) (r := rowsR) (Mk := Finset.univ) (S := slotSet 0) (f := f) ht1) $$ Hs
  iintro Hs
  iapply (wp_load 𝒱₀ (c : Thread nD τ) none Set.univ (m := gM) (r := idsR.toLoadRect) (S := slotSet 0) hs2) $$ Hs
  iintro Hs
  iapply (wp_store 𝒱₀ (c : Thread nD τ) none Set.univ (m := gM) (r := idsR) (Mk := Finset.univ) (S := slotSet 0) ht2) $$ Hs
  iintro Hs
  ihave Hs := (Entails.of_eq hst) $$ Hs
  iapply h
  isplitl [Hs] <;> iassumption

/-- The signals over, nothing of them is left but what is owed to the receive semaphores. -/
theorem sigSt_end : (sigSt c 15 : sProp 𝕄) = iprop(owing c (owedRecv 0 c) ∗ emp ∗ emp) := by
  unfold sigSt; rw [owedBar_end, geq_end, add_zero]; rfl

/-- Slot 0 written and the barrier passed, the device is ready for its copies. -/
theorem part5_run {α : Type} {Q : α → sProp 𝕄} (R : sProp 𝕄) (X : Vec F S512x256 .f32) (I : Vec F S512x1 .i32) (E : Vec F S2x256x512 .f32) (f)
    (f₀) (hW : W c = stored c X I E f₀) {k}
    (h : ∀ r, iprop(ctx W K ∗ sendSt W c 0 ∗ atPos ER (barCell c) 1 ∅ 0 ∗ R) ⊢ run c (k r) Q) :
    iprop(slotPts c 0 fullShare f ∗ ctx W K ∗ sigSt c 15 ∗ (cred (tallyAt (barCell c) () 15) ∗ atPos ER (barCell c) 0 ∅ 0 ∗ sendToks c) ∗ R)
      ⊢ run c (here (k0_part5 (F := F)) (pos c) barSs (place c I) (rows0 c X I E) (toks1 c X I) (wts1 E) (constant S12x512 .f32 0x00000000#32) >>= k) Q := by
  rw [k0_part5_eq_skeleton]; unfold k0_part5_skel
  simp only [semSignalWord, semWaitWord, Prog.lift, Prog.bind_op, Prog.bind_ret, Prog.pure_eq_ret, wp_deviceId]
  refine store_step W c _ X I E f f₀ hW ?_
  rw [sigSt_end]
  refine BIBase.Entails.trans ?_ (barrier_step W K c iprop(sendToks c ∗ slotPts c 0 fullShare (W c) ∗ R) (BIBase.Entails.trans ?_ (h _)))
  · iintro ⟨Hs, HC, ⟨HO, -, -⟩, ⟨Hc, Ha, Ht⟩, HR⟩
    isplitl [HC]; · iexact HC
    isplitl [HO Hc Ha]
    · isplitl [HO]; · iexact HO
      isplitl [Hc] <;> iassumption
    isplitl [Ht]; · iexact Ht
    isplitl [Hs] <;> iassumption
  · unfold sendSt sendToks
    rw [geq_zero, lth_zero]
    iintro ⟨HC, ⟨HO, Ha, Hp⟩, Ht, Hs, HR⟩
    isplitl [HC]; · iexact HC
    isplitr [Ha HR]
    · isplitl [HO]; · iexact HO
      isplitl [Ht Hp]
      · iapply (sendToks_barPay c)
        unfold sendToks
        isplitl [Ht] <;> iassumption
      isplitl [Hs]; · iexact Hs
      rw [bigSep_empty]; iempintro
    isplitl [Ha] <;> iassumption

/-! ## The copies -/

/-- Copies 0 to 1. -/
theorem part6_run {α : Type} {Q : α → sProp 𝕄} (R : sProp 𝕄) {u v : BitVec 32} {k}
    (h : ∀ r, iprop(ctx W K ∗ sendSt W c 2 ∗ R) ⊢ run c (k r) Q) :
    iprop(ctx W K ∗ sendSt W c 0 ∗ R) ⊢ run c (here (k0_part6 (F := F)) c (pos c) u v >>= k) Q := by
  rw [k0_part6_eq_skeleton]; unfold k0_part6_skel run
  simp only [Prog.lift, Prog.bind_op, Prog.bind_ret, Prog.pure_eq_ret]
  refine send_step W K c R 0 _ (Fin.ext (k0_dev16_eq c)) ?_
  refine send_step W K c R 1 _ (Fin.ext (k0_dev17_eq c)) ?_
  exact h _

/-- Copies 2 to 3. -/
theorem part7_run {α : Type} {Q : α → sProp 𝕄} (R : sProp 𝕄) {k}
    (h : ∀ r, iprop(ctx W K ∗ sendSt W c 4 ∗ R) ⊢ run c (k r) Q) :
    iprop(ctx W K ∗ sendSt W c 2 ∗ R) ⊢ run c (here (k0_part7 (F := F)) c (pos c) >>= k) Q := by
  rw [k0_part7_eq_skeleton]; unfold k0_part7_skel run
  simp only [Prog.lift, Prog.bind_op, Prog.bind_ret, Prog.pure_eq_ret]
  refine send_step W K c R 2 _ (Fin.ext (k0_dev18_eq c)) ?_
  refine send_step W K c R 3 _ (Fin.ext (k0_dev19_eq c)) ?_
  exact h _

/-- Copies 4 to 6. -/
theorem part8_run {α : Type} {Q : α → sProp 𝕄} (R : sProp 𝕄) {k}
    (h : ∀ r, iprop(ctx W K ∗ sendSt W c 7 ∗ R) ⊢ run c (k r) Q) :
    iprop(ctx W K ∗ sendSt W c 4 ∗ R) ⊢ run c (here (k0_part8 (F := F)) c (pos c) >>= k) Q := by
  rw [k0_part8_eq_skeleton]; unfold k0_part8_skel run
  simp only [Prog.lift, Prog.bind_op, Prog.bind_ret, Prog.pure_eq_ret]
  refine send_step W K c R 4 _ (Fin.ext (k0_dev20_eq c)) ?_
  refine send_step W K c R 5 _ (Fin.ext (k0_dev21_eq c)) ?_
  refine send_step W K c R 6 _ (Fin.ext (k0_dev22_eq c)) ?_
  exact h _

/-- Copies 7 to 8. -/
theorem part9_run {α : Type} {Q : α → sProp 𝕄} (R : sProp 𝕄) {u : BitVec 32} {k}
    (h : ∀ r, iprop(ctx W K ∗ sendSt W c 9 ∗ R) ⊢ run c (k r) Q) :
    iprop(ctx W K ∗ sendSt W c 7 ∗ R) ⊢ run c (here (k0_part9 (F := F)) c (pos c) u >>= k) Q := by
  rw [k0_part9_eq_skeleton]; unfold k0_part9_skel run
  simp only [Prog.lift, Prog.bind_op, Prog.bind_ret, Prog.pure_eq_ret]
  refine send_step W K c R 7 _ (Fin.ext (k0_dev23_eq c)) ?_
  refine send_step W K c R 8 _ (Fin.ext (k0_dev24_eq c)) ?_
  exact h _

/-- Copies 9 to 11. -/
theorem part10_run {α : Type} {Q : α → sProp 𝕄} (R : sProp 𝕄) {k}
    (h : ∀ r, iprop(ctx W K ∗ sendSt W c 12 ∗ R) ⊢ run c (k r) Q) :
    iprop(ctx W K ∗ sendSt W c 9 ∗ R) ⊢ run c (here (k0_part10 (F := F)) c (pos c) >>= k) Q := by
  rw [k0_part10_eq_skeleton]; unfold k0_part10_skel run
  simp only [Prog.lift, Prog.bind_op, Prog.bind_ret, Prog.pure_eq_ret]
  refine send_step W K c R 9 _ (Fin.ext (k0_dev25_eq c)) ?_
  refine send_step W K c R 10 _ (Fin.ext (k0_dev26_eq c)) ?_
  refine send_step W K c R 11 _ (Fin.ext (k0_dev27_eq c)) ?_
  exact h _

/-- Copies 12 to 13. -/
theorem part11_run {α : Type} {Q : α → sProp 𝕄} (R : sProp 𝕄) {u v : BitVec 32} {k}
    (h : ∀ r, iprop(ctx W K ∗ sendSt W c 14 ∗ R) ⊢ run c (k r) Q) :
    iprop(ctx W K ∗ sendSt W c 12 ∗ R) ⊢ run c (here (k0_part11 (F := F)) c (pos c) u v >>= k) Q := by
  rw [k0_part11_eq_skeleton]; unfold k0_part11_skel run
  simp only [Prog.lift, Prog.bind_op, Prog.bind_ret, Prog.pure_eq_ret]
  refine send_step W K c R 12 _ (Fin.ext (k0_dev28_eq c)) ?_
  refine send_step W K c R 13 _ (Fin.ext (k0_dev29_eq c)) ?_
  exact h _

/-- What is left of the copies when all have been started: what remains of slot 0, the credits of the departures. -/
def sent : sProp 𝕄 := iprop(slotPts c 0 (shareLeft 15) (W c) ∗ bigSep Finset.univ fun k => cred (tallyAt (sendCell c k) () N))

/-- What the waits for the landings need. -/
def recvHold : sProp 𝕄 :=
  bigSep Finset.univ fun i : Fin 15 => iprop(cred (tallyAt (recvCell c i.rev) () N) ∗ atPos ER (recvCell c i.rev) 0 ∅ 0)

/-- The load of the device's own slot between the last copy and the first landing. -/
theorem own_step {α : Type} {Q : α → sProp 𝕄} (R : sProp 𝕄) {l} {cont : Vec F S1x26x512 .bf16 → Prog (TpuEff nD τ sig (Elt F) Λ₀ .tc) α}
    (h : iprop(ctx W K ∗ recvSt c 0 ∗ sent W c ∗ R) ⊢ run c (cont (blk W c)) Q) :
    iprop(ctx W K ∗ sendSt W c 15 ∗ recvHold c ∗ R) ⊢ run c (.op (.load (gM : Memref sig .tc .vmem S16x26x512 .bf16) (slotR 0).toLoadRect l) cont) Q := by
  unfold sendSt
  rw [owedRecv_end, geq_end, lth_end]
  unfold run recvSt sent recvHold slotPts at *
  rw [geq_zero, lth_zero] at h
  iintro ⟨HC, ⟨HO, -, Hs, Hcr⟩, Hh, HR⟩
  iapply (wp_load 𝒱₀ (c : Thread nD τ) none Set.univ (m := (gM : Memref sig .tc .vmem S16x26x512 .bf16)) (r := (slotR 0).toLoadRect)
    (S := (slotM 0).view.set) (f := W c) (le_of_eq (View.set_reshape _ _ |>.trans (View.set_slice _ _)).symm)) $$ Hs
  iintro Hs
  iapply h
  isplitl [HC]; · iexact HC
  isplitl [HO Hh]
  · isplitl [HO]; · iexact HO
    isplitl [Hh]; · iexact Hh
    rw [bigSep_empty]; iempintro
  isplitl [Hs Hcr]
  · isplitl [Hs] <;> iassumption
  · iexact HR

/-- The last copy and the device's own block. -/
theorem part12_run {α : Type} {Q : α → sProp 𝕄} (R : sProp 𝕄) {u : BitVec 32} {k}
    (h : iprop(ctx W K ∗ recvSt c 0 ∗ sent W c ∗ R) ⊢ run c (k ⟨k0_pay13, slotRows (blk W c), slotIds (blk W c)⟩) Q) :
    iprop(ctx W K ∗ sendSt W c 14 ∗ recvHold c ∗ R) ⊢ run c (here (k0_part12 (F := F)) c u >>= k) Q := by
  rw [k0_part12_eq_skeleton]; unfold k0_part12_skel run
  simp only [Prog.lift, Prog.bind_op, Prog.bind_ret, Prog.pure_eq_ret]
  refine send_step W K c _ 14 _ (Fin.ext (k0_dev30_eq c)) ?_
  exact own_step W K c R h

/-! ## The landings -/

/-- Landings 0 and 1. -/
theorem part13_run {α : Type} {Q : α → sProp 𝕄} (R : sProp 𝕄) {u : BitVec 32} {k}
    (h : iprop(ctx W K ∗ recvSt c 2 ∗ R) ⊢ run c (k ⟨slotRows (blk W (aft c 14)), slotIds (blk W (aft c 14)), blk W (aft c 13)⟩) Q) :
    iprop(ctx W K ∗ recvSt c 0 ∗ R) ⊢ run c (here (k0_part13 (F := F)) u >>= k) Q := by
  rw [k0_part13_eq_skeleton]; unfold k0_part13_skel run
  simp only [Prog.lift, Prog.bind_op, Prog.bind_ret, Prog.pure_eq_ret]
  refine recv_step W K c R 0 ?_
  refine recv_step W K c R 1 ?_
  exact h

/-- Landing 2. -/
theorem part14_run {α : Type} {Q : α → sProp 𝕄} (R : sProp 𝕄) {u : BitVec 32} {b} {k}
    (h : iprop(ctx W K ∗ recvSt c 3 ∗ R) ⊢ run c (k ⟨slotRows b, slotIds b, k0_pay23 (blk W (aft c 12)), k0_pay24 (blk W (aft c 12)), k0_pay25 (blk W (aft c 12)), 16#32⟩) Q) :
    iprop(ctx W K ∗ recvSt c 2 ∗ R) ⊢ run c (here (k0_part14 (F := F)) u b >>= k) Q := by
  rw [k0_part14_eq_skeleton]; unfold k0_part14_skel run
  simp only [Prog.lift, Prog.bind_op, Prog.bind_ret, Prog.pure_eq_ret]
  refine recv_step W K c R 2 ?_
  exact h

/-- Landing 3. -/
theorem part15_run {α : Type} {Q : α → sProp 𝕄} (R : sProp 𝕄) {u : BitVec 32} {b} {k}
    (h : iprop(ctx W K ∗ recvSt c 4 ∗ R) ⊢ run c (k ⟨slotRows b, slotIds b, slotRows (blk W (aft c 11)), k0_pay30 (blk W (aft c 11)), k0_pay31 (blk W (aft c 11))⟩) Q) :
    iprop(ctx W K ∗ recvSt c 3 ∗ R) ⊢ run c (here (k0_part15 (F := F)) u (k0_pay23 b) (k0_pay24 b) (k0_pay25 b) 16#32 >>= k) Q := by
  rw [k0_part15_eq_skeleton]; unfold k0_part15_skel run
  simp only [Prog.lift, Prog.bind_op, Prog.bind_ret, Prog.pure_eq_ret]
  refine recv_step W K c R 3 ?_
  exact h

/-- Landing 4. -/
theorem part16_run {α : Type} {Q : α → sProp 𝕄} (R : sProp 𝕄) {u : BitVec 32} {b} {k}
    (h : iprop(ctx W K ∗ recvSt c 5 ∗ R) ⊢ run c (k ⟨slotIds b, slotRows (blk W (aft c 10)), k0_pay36 (blk W (aft c 10)), k0_pay37 (blk W (aft c 10))⟩) Q) :
    iprop(ctx W K ∗ recvSt c 4 ∗ R) ⊢ run c (here (k0_part16 (F := F)) u (k0_pay30 b) (k0_pay31 b) >>= k) Q := by
  rw [k0_part16_eq_skeleton]; unfold k0_part16_skel run
  simp only [Prog.lift, Prog.bind_op, Prog.bind_ret, Prog.pure_eq_ret]
  refine recv_step W K c R 4 ?_
  exact h

/-- Landing 5. -/
theorem part17_run {α : Type} {Q : α → sProp 𝕄} (R : sProp 𝕄) {u v : BitVec 32} {b} {k}
    (h : iprop(ctx W K ∗ recvSt c 6 ∗ R) ⊢ run c (k ⟨slotIds b, slotRows (blk W (aft c 9)), slotIds (blk W (aft c 9))⟩) Q) :
    iprop(ctx W K ∗ recvSt c 5 ∗ R) ⊢ run c (here (k0_part17 (F := F)) u v (k0_pay36 b) (k0_pay37 b) >>= k) Q := by
  rw [k0_part17_eq_skeleton]; unfold k0_part17_skel run
  simp only [Prog.lift, Prog.bind_op, Prog.bind_ret, Prog.pure_eq_ret]
  refine recv_step W K c R 5 ?_
  exact h

/-- Landing 6. -/
theorem part18_run {α : Type} {Q : α → sProp 𝕄} (R : sProp 𝕄) {u : BitVec 32} {k}
    (h : iprop(ctx W K ∗ recvSt c 7 ∗ R) ⊢ run c (k ⟨slotRows (blk W (aft c 8)), slotIds (blk W (aft c 8))⟩) Q) :
    iprop(ctx W K ∗ recvSt c 6 ∗ R) ⊢ run c (here (k0_part18 (F := F)) u >>= k) Q := by
  rw [k0_part18_eq_skeleton]; unfold k0_part18_skel run
  simp only [Prog.lift, Prog.bind_op, Prog.bind_ret, Prog.pure_eq_ret]
  refine recv_step W K c R 6 ?_
  exact h

/-- Landings 7 and 8. -/
theorem part19_run {α : Type} {Q : α → sProp 𝕄} (R : sProp 𝕄) {u : BitVec 32} {k}
    (h : iprop(ctx W K ∗ recvSt c 9 ∗ R) ⊢ run c (k ⟨slotRows (blk W (aft c 7)), slotIds (blk W (aft c 7)), k0_pay48 (blk W (aft c 6)), k0_pay49 (blk W (aft c 6))⟩) Q) :
    iprop(ctx W K ∗ recvSt c 7 ∗ R) ⊢ run c (here (k0_part19 (F := F)) u >>= k) Q := by
  rw [k0_part19_eq_skeleton]; unfold k0_part19_skel run
  simp only [Prog.lift, Prog.bind_op, Prog.bind_ret, Prog.pure_eq_ret]
  refine recv_step W K c R 7 ?_
  refine recv_step W K c R 8 ?_
  exact h

/-- Landing 9. -/
theorem part20_run {α : Type} {Q : α → sProp 𝕄} (R : sProp 𝕄) {u : BitVec 32} {b} {k}
    (h : iprop(ctx W K ∗ recvSt c 10 ∗ R) ⊢ run c (k ⟨slotRows b, slotIds b, k0_pay52 (blk W (aft c 5)), k0_pay54 (blk W (aft c 5)), k0_pay55 (blk W (aft c 5))⟩) Q) :
    iprop(ctx W K ∗ recvSt c 9 ∗ R) ⊢ run c (here (k0_part20 (F := F)) u (k0_pay48 b) (k0_pay49 b) >>= k) Q := by
  rw [k0_part20_eq_skeleton]; unfold k0_part20_skel run
  simp only [Prog.lift, Prog.bind_op, Prog.bind_ret, Prog.pure_eq_ret]
  refine recv_step W K c R 9 ?_
  exact h

/-- Landing 10. -/
theorem part21_run {α : Type} {Q : α → sProp 𝕄} (R : sProp 𝕄) {u : BitVec 32} {b} {k}
    (h : iprop(ctx W K ∗ recvSt c 11 ∗ R) ⊢ run c (k ⟨slotRows b, slotIds b, slotRows (blk W (aft c 4)), k0_pay60 (blk W (aft c 4)), k0_pay61 (blk W (aft c 4)), 16#32⟩) Q) :
    iprop(ctx W K ∗ recvSt c 10 ∗ R) ⊢ run c (here (k0_part21 (F := F)) u (k0_pay52 b) (k0_pay54 b) (k0_pay55 b) >>= k) Q := by
  rw [k0_part21_eq_skeleton]; unfold k0_part21_skel run
  simp only [Prog.lift, Prog.bind_op, Prog.bind_ret, Prog.pure_eq_ret]
  refine recv_step W K c R 10 ?_
  exact h

/-- Landing 11. -/
theorem part22_run {α : Type} {Q : α → sProp 𝕄} (R : sProp 𝕄) {u : BitVec 32} {b} {k}
    (h : iprop(ctx W K ∗ recvSt c 12 ∗ R) ⊢ run c (k ⟨slotIds b, slotRows (blk W (aft c 3)), slotIds (blk W (aft c 3))⟩) Q) :
    iprop(ctx W K ∗ recvSt c 11 ∗ R) ⊢ run c (here (k0_part22 (F := F)) u (k0_pay60 b) (k0_pay61 b) 16#32 >>= k) Q := by
  rw [k0_part22_eq_skeleton]; unfold k0_part22_skel run
  simp only [Prog.lift, Prog.bind_op, Prog.bind_ret, Prog.pure_eq_ret]
  refine recv_step W K c R 11 ?_
  exact h

/-- Landing 12. -/
theorem part23_run {α : Type} {Q : α → sProp 𝕄} (R : sProp 𝕄) {u v : BitVec 32} {k}
    (h : iprop(ctx W K ∗ recvSt c 13 ∗ R) ⊢ run c (k ⟨slotRows (blk W (aft c 2)), slotIds (blk W (aft c 2))⟩) Q) :
    iprop(ctx W K ∗ recvSt c 12 ∗ R) ⊢ run c (here (k0_part23 (F := F)) u v >>= k) Q := by
  rw [k0_part23_eq_skeleton]; unfold k0_part23_skel run
  simp only [Prog.lift, Prog.bind_op, Prog.bind_ret, Prog.pure_eq_ret]
  refine recv_step W K c R 12 ?_
  exact h

/-- Landing 13, and the wait of landing 14. -/
theorem part24_run {α : Type} {Q : α → sProp 𝕄} (R : sProp 𝕄) {u : BitVec 32} {k}
    (h : iprop(ctx W K ∗ landSt W c 14 ∗ R) ⊢ run c (k ⟨slotRows (blk W (aft c 1)), slotIds (blk W (aft c 1))⟩) Q) :
    iprop(ctx W K ∗ recvSt c 13 ∗ R) ⊢ run c (here (k0_part24 (F := F)) u >>= k) Q := by
  rw [k0_part24_eq_skeleton]; unfold k0_part24_skel run
  simp only [Prog.lift, Prog.bind_op, Prog.bind_ret, Prog.pure_eq_ret]
  refine recv_step W K c R 13 ?_
  refine land_step W K c R 14 ?_
  exact h

/-! ## The departures -/

/-- Departures 1 to 4. -/
theorem part26_run {α : Type} {Q : α → sProp 𝕄} (R : sProp 𝕄) {k}
    (h : iprop(ctx W K ∗ backSt W c 5 ∗ R) ⊢ run c (k ⟨⟩) Q) :
    iprop(ctx W K ∗ backSt W c 1 ∗ R) ⊢ run c (here (k0_part26 (F := F)) >>= k) Q := by
  rw [k0_part26_eq_skeleton]; unfold k0_part26_skel run
  simp only [Prog.lift, Prog.bind_op, Prog.bind_ret, Prog.pure_eq_ret]
  refine back_step W K c R 1 ?_
  refine back_step W K c R 2 ?_
  refine back_step W K c R 3 ?_
  refine back_step W K c R 4 ?_
  exact h

/-- Departures 5 to 8. -/
theorem part27_run {α : Type} {Q : α → sProp 𝕄} (R : sProp 𝕄) {k}
    (h : iprop(ctx W K ∗ backSt W c 9 ∗ R) ⊢ run c (k ⟨⟩) Q) :
    iprop(ctx W K ∗ backSt W c 5 ∗ R) ⊢ run c (here (k0_part27 (F := F)) >>= k) Q := by
  rw [k0_part27_eq_skeleton]; unfold k0_part27_skel run
  simp only [Prog.lift, Prog.bind_op, Prog.bind_ret, Prog.pure_eq_ret]
  refine back_step W K c R 5 ?_
  refine back_step W K c R 6 ?_
  refine back_step W K c R 7 ?_
  refine back_step W K c R 8 ?_
  exact h

/-- Departures 9 to 12. -/
theorem part28_run {α : Type} {Q : α → sProp 𝕄} (R : sProp 𝕄) {k}
    (h : iprop(ctx W K ∗ backSt W c 13 ∗ R) ⊢ run c (k ⟨⟩) Q) :
    iprop(ctx W K ∗ backSt W c 9 ∗ R) ⊢ run c (here (k0_part28 (F := F)) >>= k) Q := by
  rw [k0_part28_eq_skeleton]; unfold k0_part28_skel run
  simp only [Prog.lift, Prog.bind_op, Prog.bind_ret, Prog.pure_eq_ret]
  refine back_step W K c R 9 ?_
  refine back_step W K c R 10 ?_
  refine back_step W K c R 11 ?_
  refine back_step W K c R 12 ?_
  exact h

end Parts

end Cert.KernelProof

end
-- ==== Proof.IdealProto.lean ====
/-
# The exchange of the sixteen devices: cells, duties, payments, levels

Every device holds a buffer of sixteen slots. Slot 0 is its own block; slot `s` is to hold the block of the device `s`
places after it. The text of one device `c`, in order:

* fifteen signals, the `k`-th to the barrier semaphore of the device `k + 1` places after it;
* its own block stored into slot 0;
* a wait for fifteen on its own barrier semaphore;
* fifteen copies of slot 0, the `k`-th into slot `15 - k` of the device `k + 1` places after it, raising send
  semaphore `k` here and receive semaphore `14 - k` there;
* fifteen waits on its receive semaphores, each followed by a load of the slot received;
* fifteen waits on its send semaphores.

Who pays what, and what comes with it:

* the barrier semaphore of `c` has fifteen duties of one unit; duty `k` is paid by the device `k + 1` places after `c`,
  with the slot of that device which `c` is going to write (slot `15 - k`), at any contents;
* receive semaphore `j` of `c` has one duty, paid by the copy out of the device `j + 1` places after `c`, with slot
  `j + 1` of `c` holding that device's block;
* send semaphore `k` of `c` has one duty, paid by its own copy `k`, with the share of slot 0 that the copy read.

Slot 0 is read by fifteen copies and a load at once, so it is cut into shares: the `k`-th copy takes the left half of
what is left. Barrier cells are at level 1, receive cells at level 2, all else at level 0: a device waits on its barrier
owing receive credits only, and on the others owing nothing.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's copy of the rounds and the exchange's own, its duties numbered by offset -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The sixteen devices in a ring -/

set_option backward.proofsInPublic true in
/-- The device `k + 1` places after `c`. -/
def aft (c : Dev nD) (k : Fin 15) : Dev nD := ⟨(c.val + (k.val + 1)) % 16, Nat.mod_lt _ (by decide)⟩

/-- From the device `k + 1` places on, `c` is `15 - k` places on: the opposite offset is `k` reversed. -/
theorem aft_aft (c : Dev nD) (k : Fin 15) : aft (aft c k) k.rev = c := by
  obtain ⟨c, hc⟩ := c; obtain ⟨k, hk⟩ := k
  have hc' : c < 16 := hc
  apply Fin.ext; simp only [aft, Fin.rev]; omega

/-- A device and an offset, against the device reached and the opposite offset. -/
def swap : Dev nD × Fin 15 ≃ Dev nD × Fin 15 where
  toFun x := (aft x.1 x.2, x.2.rev)
  invFun x := (aft x.1 x.2, x.2.rev)
  left_inv x := by simp [aft_aft]
  right_inv x := by simp [aft_aft]

/-! ## The slots -/

abbrev gM : Memref sig .tc .vmem S16x26x512 .bf16 := Memref.whole cc0_scratch0

theorem slot_inb (s : Fin 16) : ∀ a : Fin S16x26x512.rank, (![s.val, 0, 0] : Fin 3 → ℕ) a + S1x26x512.size a ≤ S16x26x512.size a := by
  intro a; have := s.isLt
  fin_cases a <;> simp [S16x26x512, S1x26x512] <;> omega

/-- The place of slot `s` in the buffer. -/
abbrev slotR (s : Fin 16) : Rect S16x26x512 := Rect.unit (s := S16x26x512) ![s.val, 0, 0] S1x26x512.size (slot_inb s)
/-- Slot `s` as the copies and the waits name it. -/
abbrev slotM (s : Fin 16) : Memref sig .tc .vmem S26x512 .bf16 :=
  (gM.slice (slotR s) (fun _ => rfl)).squeeze S26x512 squeezes_S1x26x512_S26x512

/-- The elements of slot `s`. -/
abbrev slotSet (s : Fin 16) : Finset S16x26x512.Idx := (slotM s).view.set

theorem mem_slotSet (s : Fin 16) (i : S16x26x512.Idx) : i ∈ slotSet s ↔ (i 0).val = s.val := by
  rw [show slotSet s = ((View.whole cc0_scratch0).slice (slotR s)).set from View.set_reshape _ _ , View.set_slice_whole]
  refine Rect.mem_set_unit.trans ?_
  have h1 := (i 1).isLt; have h2 := (i 2).isLt
  constructor
  · intro h; have := h 0; simp [S1x26x512] at this; omega
  · intro h a; fin_cases a
    · simp [S1x26x512, h]
    · simp [S1x26x512]; simpa using h1
    · simp [S1x26x512]; exact h2

/-- Different slots share no element; -/
theorem slot_disjoint (s s' : Fin 16) (h : s ≠ s') : Disjoint (slotSet s) (slotSet s') :=
  Finset.disjoint_left.mpr fun i hi hi' => h (Fin.ext (((mem_slotSet s i).mp hi).symm.trans ((mem_slotSet s' i).mp hi')))
/-- and the slots cover the buffer. -/
theorem slot_cover : Finset.univ.biUnion slotSet = Finset.univ :=
  Finset.eq_univ_of_forall fun i => Finset.mem_biUnion.mpr ⟨i (0 : Fin 3), Finset.mem_univ _, (mem_slotSet _ i).mpr rfl⟩

/-- What a load of slot `s` reads from the buffer's contents `f`. -/
abbrev slotVal (s : Fin 16) (f : (cc0_scratch0 : Ref sig .tc).ty.Contents (Elt F)) : Vec F S1x26x512 .bf16 :=
  (gM : Memref sig .tc .vmem S16x26x512 .bf16).view.readAt (Elt F) (slotR s).toLoadRect f

omit [FloatOps F] in
/-- A copy of slot 0 into slot `s`: slot `s` then reads as slot 0 did. -/
theorem landed_val (s : Fin 16) (fd fs : (cc0_scratch0 : Ref sig .tc).ty.Contents (Elt F)) :
    slotVal s ((slotM s).view.write (Elt F) fd ((slotM 0).view.read (Elt F) fs) Finset.univ) = slotVal 0 fs := by
  have h := View.read_write_univ (Val := Elt F) (v := (slotM s).view) fd ((slotM 0).view.read (Elt F) fs)
  funext x
  obtain ⟨y, rfl⟩ := (Shape.reshapeEquiv (s := S1x26x512) (s' := S26x512) rfl).surjective x
  exact congrFun h y

/-! ## The semaphores and the cells -/

/-- The runtime's barrier semaphore, and the kernel's send and receive semaphores. -/
abbrev barS : Sem sig := (SemArray.scalar (sig.barrier 0 rfl) : Sems sig S_).sem
theorem sem_inb (k : Fin 15) : ∀ a : Fin S15.rank, (![k.val] : Fin 1 → ℕ) a + S1.size a ≤ S15.size a := by
  intro a; have := k.isLt
  fin_cases a; simp [S15, S1]; omega
abbrev sendS (k : Fin 15) : DmaSem sig :=
  (((cc0_scratch1 : DmaSems sig S15).slice (Rect.unit (s := S15) ![k.val] S1.size (sem_inb k))).squeeze S_ squeezes_S1_S_).sem
abbrev recvS (k : Fin 15) : DmaSem sig :=
  (((cc0_scratch2 : DmaSems sig S15).slice (Rect.unit (s := S15) ![k.val] S1.size (sem_inb k))).squeeze S_ squeezes_S1_S_).sem

theorem sendS_val : ∀ k : Fin 15, (sendS k).val = k.val + 5 := by decide
theorem recvS_val : ∀ k : Fin 15, (recvS k).val = k.val + 20 := by decide

abbrev barCell (c : Dev nD) : GSem nD τ sig := ((c : Thread nD τ), .reg barS)
abbrev sendCell (c : Dev nD) (k : Fin 15) : GSem nD τ sig := ((c : Thread nD τ), .dma (sendS k))
abbrev recvCell (c : Dev nD) (k : Fin 15) : GSem nD τ sig := ((c : Thread nD τ), .dma (recvS k))

/-- The kernel's own semaphores: the sends, then the receives. -/
abbrev osem : Fin 15 ⊕ Fin 15 → SemLoc sig := fun | .inl k => .dma (sendS k) | .inr k => .dma (recvS k)
/-- All of the exchange's: the barrier and the own ones. -/
abbrev csem : Option (Fin 15 ⊕ Fin 15) → SemLoc sig := fun | none => .reg barS | some k => osem k
abbrev kcell (ck : Dev nD × Option (Fin 15 ⊕ Fin 15)) : GSem nD τ sig := ((ck.1 : Thread nD τ), csem ck.2)

/-- The credit of one copy. -/
def N : ℕ := (slotM 0).view.dmaCredit
theorem N_pos : 0 < N := View.dmaCredit_pos _ (by decide)

theorem osem_injective : Function.Injective osem := by
  have hv : Function.Injective fun k => match osem k with | .dma q => q.val | .reg _ => 0 := by
    rintro (a | a) (b | b) h <;> simp only [osem, sendS_val, recvS_val] at h
    · exact congrArg _ (Fin.ext (by omega))
    · have := a.isLt; omega
    · have := b.isLt; omega
    · exact congrArg _ (Fin.ext (by omega))
  exact fun a b h => hv (by simp only [h])
theorem csem_injective : Function.Injective csem := by
  rintro (_ | a) (_ | b) h
  · rfl
  · rcases b with b | b <;> cases h
  · rcases a with a | a <;> cases h
  · exact congrArg some (osem_injective h)
theorem kcell_injective : Function.Injective kcell := by
  rintro ⟨c, k⟩ ⟨c', k'⟩ h
  have h1 : c = c' := congrArg (fun g : GSem nD τ sig => g.1.1) h
  subst h1
  exact congrArg _ (csem_injective (congrArg Prod.snd h))

/-! ## What the payloads are -/

-- What each device's slot 0 comes to hold, as contents of the whole buffer.
variable (W : Dev nD → (cc0_scratch0 : Ref sig .tc).ty.Contents (Elt F))

/-- Slot `s` of device `c`, at share `q` and contents `f`. -/
def slotPts (c : Dev nD) (s : Fin 16) (q : PosShare TreeShare) (f : (cc0_scratch0 : Ref sig .tc).ty.Contents (Elt F)) : sProp 𝕄 :=
  (slotM s).view.loc (c : Thread nD τ) ↦[(slotM s).view.set]{q} f

/-- What is left of the full share after `n` left halves have been taken, -/
def shareLeft : ℕ → PosShare TreeShare
  | 0 => fullShare
  | n + 1 => (shareLeft n).right
/-- and the left half that copy `k` takes. -/
abbrev shareOf (k : Fin 15) : PosShare TreeShare := (shareLeft k.val).left

/-- The slot of the device `k + 1` places after `c` that `c` writes. -/
def barPay (c : Dev nD) (k : Fin 15) : sProp 𝕄 := iprop(∃ f, slotPts (aft c k) k.rev.succ fullShare f)
/-- Slot `j + 1` of `c`, holding the block of the device `j + 1` places after. -/
def recvPay (c : Dev nD) (j : Fin 15) : sProp 𝕄 :=
  iprop(∃ f, ⌜slotVal j.succ f = slotVal 0 (W (aft c j))⌝ ∗ slotPts c j.succ fullShare f)
/-- The share of slot 0 that copy `k` reads. -/
def sendPay (c : Dev nD) (k : Fin 15) : sProp 𝕄 := slotPts c 0 (shareOf k) (W c)

omit [FloatOps F] in
instance slotPts_storable (c : Dev nD) (s q f) : BI.Storable (upEmb : UEmb _ 𝕄) (slotPts (F := F) c s q f) := by unfold slotPts; infer_instance
omit [FloatOps F] in
instance barPay_storable (c : Dev nD) (k) : BI.Storable (upEmb : UEmb _ 𝕄) (barPay (F := F) c k) := by unfold barPay; infer_instance
omit [FloatOps F] in
instance recvPay_storable (c : Dev nD) (k) : BI.Storable (upEmb : UEmb _ 𝕄) (recvPay (F := F) W c k) := by unfold recvPay; infer_instance
omit [FloatOps F] in
instance sendPay_storable (c : Dev nD) (k) : BI.Storable (upEmb : UEmb _ 𝕄) (sendPay (F := F) W c k) := by unfold sendPay; infer_instance

/-! ## The schedule: one round -/

/-- The payload of duty `d` of a semaphore of device `c`. -/
def pay (c : Dev nD) (d : Fin 15) : SemLoc sig → sProp 𝕄
  | .reg _ => barPay c d
  | .dma q =>
    if hs : 5 ≤ q.val ∧ q.val - 5 < 15 then sendPay W c ⟨q.val - 5, hs.2⟩
    else if hr : 20 ≤ q.val ∧ q.val - 20 < 15 then recvPay W c ⟨q.val - 20, hr.2⟩
    else iprop(emp)

/-- The exchange's DMA semaphores. -/
def IsOwn : SemLoc sig → Prop
  | .reg _ => False
  | .dma q => 5 ≤ q.val
instance : DecidablePred IsOwn := fun s => by cases s <;> unfold IsOwn <;> infer_instance

/-- One round: a barrier cell has fifteen duties of one unit each, a send or receive cell one duty of a copy's credit. -/
def rd : Rounds.Schedule (GSem nD τ sig) (Fin 15) 𝕄 where
  duties g r := if r = 0 ∧ g.1.2 = .tc then (if g.2 = .reg barS then Finset.univ else if IsOwn g.2 then {0} else ∅) else ∅
  unitless _ := False
  amount g _ _ := if g.2 = .reg barS then 1 else N
  payload g _ d := pay W g.1.1 d g.2
  amount_pos g _ _ _ := by
    by_cases h : g.2 = .reg barS
    · rw [if_pos h]; exact Nat.one_pos
    · rw [if_neg h]; exact N_pos

instance rd_payload_storable (g : GSem nD τ sig) (r : ℕ) (d : Fin 15) :
    BI.Storable (upEmb : UEmb _ 𝕄) ((rd (F := F) W).payload g r d) := by
  show BI.Storable upEmb (pay W g.1.1 d g.2)
  unfold pay
  (repeat' split) <;> infer_instance

section Sched
variable (c : Dev nD) (k : Fin 15)

theorem dma_ne_bar (q : DmaSem sig) : (SemLoc.dma q : SemLoc sig) ≠ .reg barS := fun h => by cases h
theorem own_send : IsOwn (.dma (sendS k)) := by show 5 ≤ (sendS k).val; rw [sendS_val]; omega
theorem own_recv : IsOwn (.dma (recvS k)) := by show 5 ≤ (recvS k).val; rw [recvS_val]; omega

omit [FloatOps F] in
theorem duties_bar : (rd (F := F) W).duties (barCell c) 0 = Finset.univ := by
  dsimp only [rd]; rw [if_pos ⟨rfl, rfl⟩]; exact if_pos rfl
omit [FloatOps F] in
theorem duties_own {q : DmaSem sig} (h : IsOwn (.dma q)) : (rd (F := F) W).duties ((c : Thread nD τ), .dma q) 0 = {0} := by
  dsimp only [rd]; rw [if_pos ⟨rfl, rfl⟩, if_neg (dma_ne_bar q)]; exact if_pos h
omit [FloatOps F] in
theorem duties_later (g : GSem nD τ sig) : ∀ r, 1 ≤ r → (rd (F := F) W).duties g r = ∅ :=
  fun r hr => if_neg fun h => by omega

omit [FloatOps F] in
theorem amount_bar (d : Fin 15) : (rd (F := F) W).amount (barCell c) 0 d = 1 := by
  show (if (SemLoc.reg barS : SemLoc sig) = .reg barS then 1 else N) = 1
  rw [if_pos rfl]
omit [FloatOps F] in
theorem amount_dma (q : DmaSem sig) (d : Fin 15) : (rd (F := F) W).amount ((c : Thread nD τ), .dma q) 0 d = N := by
  show (if (SemLoc.dma q : SemLoc sig) = .reg barS then 1 else N) = N
  rw [if_neg (dma_ne_bar q)]

omit [FloatOps F] in
theorem expect_bar : (rd (F := F) W).expect (barCell c) 0 = 15 := by
  unfold Schedule.expect Schedule.amountOf
  rw [duties_bar, Finset.sum_congr rfl fun d _ => amount_bar W c d, Finset.sum_const, Finset.card_univ, Fintype.card_fin, smul_eq_mul]
omit [FloatOps F] in
theorem expect_own {q : DmaSem sig} (h : IsOwn (.dma q)) : (rd (F := F) W).expect ((c : Thread nD τ), .dma q) 0 = N := by
  unfold Schedule.expect Schedule.amountOf; rw [duties_own W c h, Finset.sum_singleton, amount_dma]

omit [FloatOps F] in
theorem payload_bar (d : Fin 15) : (rd (F := F) W).payload (barCell c) 0 d = barPay c d := rfl
omit [FloatOps F] in
theorem payload_send (d : Fin 15) : (rd (F := F) W).payload (sendCell c k) 0 d = sendPay W c k := by
  have hv := sendS_val k; have hk := k.isLt
  show pay W c d (.dma (sendS k)) = _
  unfold pay; dsimp only; rw [dif_pos ⟨by omega, by omega⟩]
  congr 1; apply Fin.ext; show (sendS k).val - 5 = _; omega
omit [FloatOps F] in
theorem payload_recv (d : Fin 15) : (rd (F := F) W).payload (recvCell c k) 0 d = recvPay W c k := by
  have hv := recvS_val k; have hk := k.isLt
  show pay W c d (.dma (recvS k)) = _
  unfold pay; dsimp only; rw [dif_neg (by omega), dif_pos ⟨by omega, by omega⟩]
  congr 1; apply Fin.ext; show (recvS k).val - 20 = _; omega

omit [FloatOps F] in
theorem rest_bar : bigSep ((rd (F := F) W).duties (barCell c) 0 \ ∅) (fun d => (rd (F := F) W).payload (barCell c) 0 d)
    = bigSep Finset.univ fun d => barPay c d := by
  rw [Finset.sdiff_empty, duties_bar]
  rfl
omit [FloatOps F] in
theorem rest_send : bigSep ((rd (F := F) W).duties (sendCell c k) 0 \ ∅) (fun d => (rd (F := F) W).payload (sendCell c k) 0 d) = sendPay W c k := by
  rw [Finset.sdiff_empty, duties_own W c (own_send k), bigSep_singleton, payload_send]
omit [FloatOps F] in
theorem rest_recv : bigSep ((rd (F := F) W).duties (recvCell c k) 0 \ ∅) (fun d => (rd (F := F) W).payload (recvCell c k) 0 d) = recvPay W c k := by
  rw [Finset.sdiff_empty, duties_own W c (own_recv k), bigSep_singleton, payload_recv]

end Sched

/-! ## What each core owes; the levels -/

/-- The offsets from `n` on, and those below `n`. -/
def geq (n : ℕ) : Finset (Fin 15) := Finset.univ.filter fun k => n ≤ k.val
def lth (n : ℕ) : Finset (Fin 15) := Finset.univ.filter fun k => k.val < n

theorem geq_zero : geq 0 = Finset.univ := by decide
theorem geq_end : geq 15 = ∅ := by decide
theorem lth_zero : lth 0 = ∅ := by decide
theorem lth_end : lth 15 = Finset.univ := by decide
theorem geq_step (k : Fin 15) : geq k.val = insert k (geq (k.val + 1)) := by
  ext j; simp [geq, Fin.ext_iff]; omega
theorem geq_not_mem (k : Fin 15) : k ∉ geq (k.val + 1) := by simp [geq]
theorem lth_step (k : Fin 15) : lth (k.val + 1) = insert k (lth k.val) := by
  ext j; simp [lth, Fin.ext_iff]; omega
theorem lth_not_mem (k : Fin 15) : k ∉ lth k.val := by simp [lth]

/-- The receive credits of the copies from the `n`-th on, -/
def owedRecv (n : ℕ) (c : Dev nD) : CellTallies nD τ sig Unit := ∑ k ∈ geq n, tallyAt (recvCell (aft c k) k.rev) () N
/-- the units of the signals from the `n`-th on, -/
def owedBar (n : ℕ) (c : Dev nD) : CellTallies nD τ sig Unit := ∑ k ∈ geq n, tallyAt (barCell (aft c k)) () 1
/-- and both, whole: what a device owes at launch. -/
def O₀ (c : Dev nD) : CellTallies nD τ sig Unit := owedRecv 0 c + owedBar 0 c

theorem owedRecv_step (k : Fin 15) (c : Dev nD) : owedRecv k.val c = owedRecv (k.val + 1) c + tallyAt (recvCell (aft c k) k.rev) () N := by
  unfold owedRecv; rw [geq_step, Finset.sum_insert (geq_not_mem k), add_comm]
theorem owedBar_step (k : Fin 15) (c : Dev nD) : owedBar k.val c = owedBar (k.val + 1) c + tallyAt (barCell (aft c k)) () 1 := by
  unfold owedBar; rw [geq_step, Finset.sum_insert (geq_not_mem k), add_comm]
theorem owedRecv_end (c : Dev nD) : owedRecv 15 c = 0 := by unfold owedRecv; rw [geq_end, Finset.sum_empty]
theorem owedBar_end (c : Dev nD) : owedBar 15 c = 0 := by unfold owedBar; rw [geq_end, Finset.sum_empty]

def L (g : GSem nD τ sig) : Finset Unit := if g.1.2 = .tc then {()} else ∅
/-- Barrier cells at 1, receive cells at 2, the staging and send cells at 0. -/
def lv (g : GSem nD τ sig) (_ : Unit) : ℕ := match g.2 with
  | .reg _ => 1
  | .dma q => if 20 ≤ q.val then 2 else 0

/-- The level facts. -/
def lev : sProp 𝕄 := levAts L lv
instance lev_persistent : BI.Persistent (lev : sProp 𝕄) := by unfold lev; infer_instance

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (k : Fin 15) (u : Unit) : lv (recvCell c k) u = 2 := by
  show (if 20 ≤ (recvS k).val then 2 else 0) = 2
  rw [recvS_val, if_pos (by omega)]

/-- A cell that a sum of tallies charges is one of the summands'. -/
theorem sum_tally_pos {S : Finset (Fin 15)} {f : Fin 15 → GSem nD τ sig} {n : ℕ} {g : GSem nD τ sig} {u : Unit}
    (h : 0 < (∑ k ∈ S, (tallyAt (f k) () n : CellTallies nD τ sig Unit)) g u) : ∃ k, g = f k := by
  by_contra hn
  push Not at hn
  rw [Finset.sum_apply, Finsupp.finset_sum_apply, Finset.sum_eq_zero fun k _ => by rw [tallyAt_apply]; exact if_neg fun h' => hn k h'.1] at h
  exact Nat.lt_irrefl 0 h

theorem owedRecv_pos {n : ℕ} {c : Dev nD} {g : GSem nD τ sig} {u : Unit} (h : 0 < owedRecv n c g u) :
    ∃ k : Fin 15, g = recvCell (aft c k) k.rev := sum_tally_pos (f := fun k => recvCell (aft c k) k.rev) h
theorem O₀_pos {c : Dev nD} {g : GSem nD τ sig} {u : Unit} (h : 0 < O₀ c g u) :
    (∃ k : Fin 15, g = recvCell (aft c k) k.rev) ∨ ∃ k : Fin 15, g = barCell (aft c k) := by
  unfold O₀ at h
  rw [Pi.add_apply, Finsupp.add_apply] at h
  rcases Nat.eq_zero_or_pos (owedRecv 0 c g u) with h0 | h0
  · exact Or.inr (sum_tally_pos (f := fun k => barCell (aft c k)) (by rw [h0, Nat.zero_add] at h; exact h))
  · exact Or.inl (owedRecv_pos h0)

omit [FloatOps F] in
/-- A wait on a staging cell, whatever of its launch debt the device still owes. -/
theorem mayWait_stage (c : Dev nD) (q : DmaSem sig) (hq : q.val < 20) (O : CellTallies nD τ sig Unit) (hO : O = O₀ c ∨ O = 0) :
    (lev : sProp 𝕄) ⊢ MayWait (c : Thread nD τ) (.dma q) () O := by
  unfold lev
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]
        show (if 20 ≤ q.val then 2 else 0) ≤ 0
        rw [if_neg (by omega)])
      (fun g u hg => by
        rcases O₀_pos hg with ⟨k, rfl⟩ | ⟨k, rfl⟩
        · rw [lv_recv]; decide
        · exact Nat.one_pos)
  · rw [MayWait_zero]; iintro -; iempintro

omit [FloatOps F] in
/-- At its barrier wait a device owes receive credits only: receive cells, above its barrier cell. -/
theorem mayWait_bar (c : Dev nD) :
    (lev : sProp 𝕄) ⊢ MayWait (c : Thread nD τ) (.reg barS) () (owedRecv 0 c) := by
  unfold lev
  exact MayOwe.of_cut (L := L) (lev := lv) 1 (fun p hp => by rw [Finset.mem_singleton.mp hp, L_tc]; exact Finset.mem_singleton_self _)
    (fun g u hg => by obtain ⟨k, rfl⟩ := owedRecv_pos hg; exact Finset.mem_singleton_self _)
    (fun p hp => by rw [Finset.mem_singleton.mp hp]; exact Nat.le_refl 1)
    (fun g u hg => by obtain ⟨k, rfl⟩ := owedRecv_pos hg; rw [lv_recv]; decide)

end Cert.KernelIdealProof

end
-- ==== Proof.IdealSteps.lean ====
/-
# One step of each kind

What a device holds at each stage of its text, indexed by how many operations of that stage are behind it, and for each
kind of operation — a signal, a copy, a wait for a landing with the load after it, a wait for a departure — that it takes
stage `k` to stage `k + 1`. `R` is whatever else the device holds.
-/
module

public import proofs.«01_k».proof.Proof.IdealProto

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (W : Dev nD → (cc0_scratch0 : Ref sig .tc).ty.Contents (Elt F))
variable (K : Dev nD × Option (Fin 15 ⊕ Fin 15) → ℕ)

/-- What all hold alike: the invariants of all cells, that each cell's round 0 is reached, the levels. -/
def ctx : sProp 𝕄 :=
  iprop((bigSep Finset.univ fun x => cellInv ER (rd W) (K x) (kcell x)) ∗ (bigSep Finset.univ fun x => reached ER (kcell x) 0) ∗ lev)

instance ctx_persistent : BI.Persistent (ctx W K) := by unfold ctx; infer_instance

theorem ctx_inv (x) : ctx W K ⊢ cellInv ER (rd W) (K x) (kcell x) := by
  unfold ctx
  exact sep_elim_left.trans (bigSep_elim (Finset.mem_univ x))
theorem ctx_reached (x) : ctx W K ⊢ reached ER (kcell x) 0 := by
  unfold ctx
  exact sep_elim_right.trans (sep_elim_left.trans (bigSep_elim (Finset.mem_univ x)))
theorem ctx_lev : ctx W K ⊢ lev := by
  unfold ctx
  iintro ⟨-, -, H⟩; iexact H

/-- What a device owes, its waits so far unrecorded. -/
def owing (c : Dev nD) (O : CellTallies nD τ sig Unit) : sProp 𝕄 := iprop(∃ Wt, owes (c : Thread nD τ) O Wt)

/-- A family over the offsets from `k` on is its member at `k` and the family from `k + 1` on; -/
theorem geq_take (k : Fin 15) (Φ : Fin 15 → sProp 𝕄) : bigSep (geq k.val) Φ = iprop(Φ k ∗ bigSep (geq (k.val + 1)) Φ) := by
  rw [geq_step, bigSep_insert (geq_not_mem k)]; rfl
/-- over those below `k + 1`, its member at `k` and the family below `k`. -/
theorem lth_put (k : Fin 15) (Φ : Fin 15 → sProp 𝕄) : bigSep (lth (k.val + 1)) Φ = iprop(Φ k ∗ bigSep (lth k.val) Φ) := by
  rw [lth_step, bigSep_insert (lth_not_mem k)]; rfl

section Steps
variable (c : Dev nD)

/-! ## The signals -/

/-- Before signal `n`: the units still owed, the tokens of the signals to come, the slots to hand over. -/
def sigSt (n : ℕ) : sProp 𝕄 :=
  iprop(owing c (owedRecv 0 c + owedBar n c)
    ∗ (bigSep (geq n) fun k => dutyTok ER (barCell (aft c k)) 0 k.rev)
    ∗ bigSep (geq n) fun k => iprop(∃ f, slotPts c k.succ fullShare f))

/-- A signal hands the device addressed the slot of this device that it is going to write. -/
theorem signal_step {α : Type} {Q : α → sProp 𝕄} (R : sProp 𝕄) (k : Fin 15) (n : Dev nD) (hn : n = aft c k)
    {cont : PUnit → Prog (TpuEff nD τ sig (Elt F) Λ₀ .tc) α}
    (h : iprop(ctx W K ∗ sigSt c (k.val + 1) ∗ R) ⊢ wp frame (wpE (defs₀ (F := F)) 𝒱₀ (c : Thread nD τ) none) Set.univ (cont ⟨⟩) Q) :
    iprop(ctx W K ∗ sigSt c k.val ∗ R)
      ⊢ wp frame (wpE (defs₀ (F := F)) 𝒱₀ (c : Thread nD τ) none) Set.univ (.op (.semSignal (n : Thread nD τ) barS 1) cont) Q := by
  subst hn
  unfold sigSt owing at h ⊢
  rw [geq_take k, geq_take k]
  iintro ⟨#HC, ⟨⟨%Wt, HO⟩, ⟨Ht, Hts⟩, ⟨Hs, Hss⟩⟩, HR⟩
  iapply (Rounds.wp_signal 𝒱₀ ER (rd W) (c : Thread nD τ) none (dst := (aft c k : Thread nD τ)) (κ := K (aft c k, none))
      (d := k.rev) (by rw [duties_bar]; exact Finset.mem_univ _) (amount_bar W (aft c k) k.rev) () (O₀ := owedRecv 0 c + owedBar k.val c) (owedRecv 0 c + owedBar (k.val + 1) c)
      (by rw [owedBar_step, add_assoc])) $$ [HO Ht Hs]
  · isplitr; · iapply (ctx_inv W K (aft c k, none)); iexact HC
    isplitl [HO]; · iexact HO
    isplitl [Ht]; · iexact Ht
    isplitl [Hs]
    · rw [payload_bar]; unfold barPay; rw [aft_aft, Fin.rev_rev]; iexact Hs
    · iapply (ctx_reached W K (aft c k, none)); iexact HC
  iintro HO
  iapply h
  isplitr; · iexact HC
  isplitr [HR]
  · isplitl [HO]; · iexists Wt; iexact HO
    isplitl [Hts] <;> iassumption
  · iexact HR

/-! ## The wait on the barrier -/

/-- The barrier's wait: every other device's slot for this device's block comes with it. -/
theorem barrier_step {α : Type} {Q : α → sProp 𝕄} (R : sProp 𝕄) {cont : PUnit → Prog (TpuEff nD τ sig (Elt F) Λ₀ .tc) α}
    (h : iprop(ctx W K ∗ (owing c (owedRecv 0 c) ∗ atPos ER (barCell c) 1 ∅ 0 ∗ bigSep Finset.univ fun k => barPay c k) ∗ R)
      ⊢ wp frame (wpE (defs₀ (F := F)) 𝒱₀ (c : Thread nD τ) none) Set.univ (cont ⟨⟩) Q) :
    iprop(ctx W K ∗ (owing c (owedRecv 0 c) ∗ cred (tallyAt (barCell c) () 15) ∗ atPos ER (barCell c) 0 ∅ 0) ∗ R)
      ⊢ wp frame (wpE (defs₀ (F := F)) 𝒱₀ (c : Thread nD τ) none) Set.univ (.op (.semWait barS 15) cont) Q := by
  have hmw : ctx W K ⊢ MayWait (c : Thread nD τ) (.reg barS) () (owedRecv 0 c) := (ctx_lev W K).trans (mayWait_bar c)
  unfold owing at h ⊢
  iintro ⟨#HC, ⟨⟨%Wt, HO⟩, Hc, Ha⟩, HR⟩
  iapply (Rounds.wp_wait_rest_token 𝒱₀ ER (rd W) (c : Thread nD τ) none (κ := K (c, none))
      (wpE_semWait_eq 𝒱₀ (c : Thread nD τ) none Set.univ) (Set.mem_univ _) () (k' := 15) (O := owedRecv 0 c) (W := Wt) (R := 0) (m := 0) (T := ∅)
      (by rw [expect_bar])) $$ [HO Hc Ha]
  · isplitr; · iapply (ctx_inv W K (c, none)); iexact HC
    isplitl [Hc]; · iexact Hc
    isplitl [HO]; · iexact HO
    isplitr; · iapply hmw; iexact HC
    iexact Ha
  iintro ⟨HO, Ha, -, Hp⟩
  iapply h
  isplitr; · iexact HC
  isplitr [HR]
  · isplitl [HO]; · iexists _; iexact HO
    isplitl [Ha]; · iexact Ha
    ihave Hp := (Entails.of_eq (rest_bar W c)) $$ Hp
    iexact Hp
  · iexact HR

/-! ## The copies -/

/-- Before copy `n`: the credits still owed, the tokens and the destinations of the copies to come, the share of slot 0
    left, the credits of the departures so far. -/
def sendSt (n : ℕ) : sProp 𝕄 :=
  iprop(owing c (owedRecv n c)
    ∗ (bigSep (geq n) fun k => iprop(dutyTok ER (sendCell c k) 0 0 ∗ dutyTok ER (recvCell (aft c k) k.rev) 0 0 ∗ barPay c k))
    ∗ slotPts c 0 (shareLeft n) (W c)
    ∗ bigSep (lth n) fun k => cred (tallyAt (sendCell c k) () N))

omit [FloatOps F] in
/-- A slot at a share is the slot at its two halves. -/
theorem slotPts_halve (c : Dev nD) (s : Fin 16) (q : PosShare TreeShare) (f : (cc0_scratch0 : Ref sig .tc).ty.Contents (Elt F)) :
    (slotPts c s q f : sProp 𝕄) ⊣⊢ iprop(slotPts c s q.left f ∗ slotPts c s q.right f) := by
  unfold slotPts; exact pointsTo_share (PosShare.mem_left_op_right q)

omit [FloatOps F] in
/-- What copy `k` leaves in its slot is what that slot's receive semaphore hands over. -/
theorem landed_pay (k : Fin 15) (fd : (cc0_scratch0 : Ref sig .tc).ty.Contents (Elt F)) :
    slotPts (aft c k) k.rev.succ fullShare ((slotM k.rev.succ).view.write (Elt F) fd ((slotM 0).view.read (Elt F) (W c)) Finset.univ)
      ⊢ recvPay W (aft c k) k.rev := by
  unfold recvPay
  iintro H
  iexists _
  isplitr
  · ipureintro; rw [aft_aft]; exact landed_val k.rev.succ fd (W c)
  iexact H

/-- The library's rule for a copy, at copy `k`. -/
theorem wp_send_slot {α : Type} {Q : α → sProp 𝕄} (k : Fin 15)
    {hsc : (slotM k.rev.succ : Memref sig (Dev.tc (aft c k) : Thread nD τ).2.kind .vmem S26x512 .bf16).view.ref.isScScratch = false}
    {hsrc : (slotM 0).view.WordExact} {hdst : (slotM k.rev.succ).view.WordExact}
    {hsem : DmaTarget.Typed .vmem (.dma (recvS k.rev)) (.remote (Dev.tc (aft c k) : Thread nD τ) (slotM k.rev.succ) (.dma (sendS k)) hsc)}
    {cont : PUnit → Prog (TpuEff nD τ sig (Elt F) Λ₀ .tc) α}
    (fd : (cc0_scratch0 : Ref sig .tc).ty.Contents (Elt F)) (Wt : Waits sig Unit) :
    iprop(cellInv ER (rd W) (K (c, some (.inl k))) (sendCell c k) ∗ cellInv ER (rd W) (K (aft c k, some (.inr k.rev))) (recvCell (aft c k) k.rev)
        ∗ slotPts c 0 (shareOf k) (W c) ∗ slotPts (aft c k) k.rev.succ fullShare fd
        ∗ owes (c : Thread nD τ) (owedRecv k.val c) Wt
        ∗ dutyTok ER (sendCell c k) 0 0 ∗ reached ER (sendCell c k) 0
        ∗ dutyTok ER (recvCell (aft c k) k.rev) 0 0 ∗ reached ER (recvCell (aft c k) k.rev) 0)
      ⊢ iprop(((cred (tallyAt (sendCell c k) () N) ∗ owes (c : Thread nD τ) (owedRecv (k.val + 1) c) Wt)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (slotM 0) (.remote (Dev.tc (aft c k) : Thread nD τ) (slotM k.rev.succ) (.dma (sendS k)) hsc) (.dma (recvS k.rev)) hsrc hdst hsem) cont) Q) := by
  have hp1 : ((slotM 0).view.loc (c : Thread nD τ) ↦[(slotM 0).view.set]{shareOf k} (W c)) ⊢ (rd W).payload (sendCell c k) 0 0 := by
    rw [payload_send]; exact BI.Entails.refl _
  have hp2 : ((slotM k.rev.succ).view.loc (aft c k : Thread nD τ) ↦[(slotM k.rev.succ).view.set]{fullShare}
      ((slotM k.rev.succ).view.write (Elt F) fd ((slotM 0).view.read (Elt F) (W c)) Finset.univ)) ⊢ (rd W).payload (recvCell (aft c k) k.rev) 0 0 := by
    rw [payload_recv]; exact landed_pay W c k fd
  have hd1 : (0 : Fin 15) ∈ (rd (F := F) W).duties (sendCell c k) 0 := by rw [duties_own W c (own_send k)]; exact Finset.mem_singleton_self _
  have hd2 : (0 : Fin 15) ∈ (rd (F := F) W).duties (recvCell (aft c k) k.rev) 0 := by
    rw [duties_own W (aft c k) (own_recv k.rev)]; exact Finset.mem_singleton_self _
  have hN : (slotM k.rev.succ).view.amount (.dma (recvS k.rev)) = N := rfl
  unfold slotPts
  exact Rounds.wp_send_pointsTo 𝒱₀ ER (rd W) (c : Thread nD τ) none (c' := (aft c k : Thread nD τ)) (src := slotM 0) (dst := slotM k.rev.succ)
    (sS := .dma (sendS k)) (sem := .dma (recvS k.rev)) (hsc := hsc) (hsrc := hsrc) (hdst := hdst) (hsem := hsem) (k := cont)
    (κ₁ := K (c, some (.inl k))) (κ₂ := K (aft c k, some (.inr k.rev)))
    (r₁ := 0) (r₂ := 0) (d₁ := 0) (d₂ := 0) (fd := fd) (fs := W c) (q := shareOf k)
    hd1 hd2 () () N hN (amount_dma W c _ 0) (amount_dma W (aft c k) _ 0) (owedRecv (k.val + 1) c) (owedRecv_step k c) (W := Wt) hp1 hp2

/-- A copy takes its share of slot 0 and the slot of the device addressed. -/
theorem send_step {α : Type} {Q : α → sProp 𝕄} (R : sProp 𝕄) (k : Fin 15) (n : Dev nD) (hn : n = aft c k)
    {hsc : (slotM k.rev.succ : Memref sig (Dev.tc n : Thread nD τ).2.kind .vmem S26x512 .bf16).view.ref.isScScratch = false}
    {hsrc : (slotM 0).view.WordExact} {hdst : (slotM k.rev.succ).view.WordExact}
    {hsem : DmaTarget.Typed .vmem (.dma (recvS k.rev)) (.remote (Dev.tc n : Thread nD τ) (slotM k.rev.succ) (.dma (sendS k)) hsc)}
    {cont : PUnit → Prog (TpuEff nD τ sig (Elt F) Λ₀ .tc) α}
    (h : iprop(ctx W K ∗ sendSt W c (k.val + 1) ∗ R) ⊢ wp frame (wpE (defs₀ (F := F)) 𝒱₀ (c : Thread nD τ) none) Set.univ (cont ⟨⟩) Q) :
    iprop(ctx W K ∗ sendSt W c k.val ∗ R)
      ⊢ wp frame (wpE (defs₀ (F := F)) 𝒱₀ (c : Thread nD τ) none) Set.univ
          (.op (.enqueueDma (slotM 0) (.remote (Dev.tc n : Thread nD τ) (slotM k.rev.succ) (.dma (sendS k)) hsc) (.dma (recvS k.rev)) hsrc hdst hsem) cont) Q := by
  subst hn
  unfold sendSt owing at h ⊢
  rw [geq_take k, lth_put k] at *
  unfold barPay
  iintro ⟨#HC, ⟨⟨%Wt, HO⟩, ⟨⟨Ht1, Ht2, ⟨%fd, Hd⟩⟩, Hts⟩, Hsrc, Hcr⟩, HR⟩
  ihave Hsrc' := (slotPts_halve c 0 (shareLeft k.val) (W c)).1 $$ Hsrc
  icases Hsrc' with ⟨Hs1, Hs2⟩
  iapply (wp_send_slot W K c k fd Wt) $$ [HO Ht1 Ht2 Hd Hs1]
  · isplitr; · iapply (ctx_inv W K (c, some (.inl k))); iexact HC
    isplitr; · iapply (ctx_inv W K (aft c k, some (.inr k.rev))); iexact HC
    isplitl [Hs1]; · iexact Hs1
    isplitl [Hd]; · iexact Hd
    isplitl [HO]; · iexact HO
    isplitl [Ht1]; · iexact Ht1
    isplitr; · iapply (ctx_reached W K (c, some (.inl k))); iexact HC
    isplitl [Ht2]; · iexact Ht2
    iapply (ctx_reached W K (aft c k, some (.inr k.rev))); iexact HC
  iintro ⟨Hc1, HO⟩
  iapply h
  isplitr; · iexact HC
  isplitr [HR]
  · isplitl [HO]; · iexists Wt; iexact HO
    isplitl [Hts]; · iexact Hts
    isplitl [Hs2]; · iexact Hs2
    isplitl [Hc1] <;> iassumption
  · iexact HR

/-! ## The waits for the landings, each with its load -/

/-- Before the `n`-th wait (they go from the last receive semaphore down): the credits and places of the waits to come,
    the slots of those behind. -/
def recvSt (n : ℕ) : sProp 𝕄 :=
  iprop(owing c 0
    ∗ (bigSep (geq n) fun i => iprop(cred (tallyAt (recvCell c i.rev) () N) ∗ atPos ER (recvCell c i.rev) 0 ∅ 0))
    ∗ bigSep (lth n) fun i => iprop((∃ f, slotPts c i.rev.succ fullShare f) ∗ atPos ER (recvCell c i.rev) 1 ∅ 0))

/-- The block of device `c`, as a load reads it. -/
abbrev blk (c : Dev nD) : Vec F S1x26x512 .bf16 := slotVal 0 (W c)

/-- Between the `n`-th wait and its load: the slot that arrived, reading as the sender's block, is still apart. -/
def landSt (i : Fin 15) : sProp 𝕄 :=
  iprop(owing c 0
    ∗ (bigSep (geq (i.val + 1)) fun i => iprop(cred (tallyAt (recvCell c i.rev) () N) ∗ atPos ER (recvCell c i.rev) 0 ∅ 0))
    ∗ (recvPay W c i.rev ∗ atPos ER (recvCell c i.rev) 1 ∅ 0)
    ∗ bigSep (lth i.val) fun i => iprop((∃ f, slotPts c i.rev.succ fullShare f) ∗ atPos ER (recvCell c i.rev) 1 ∅ 0))

/-- A wait for a landing. -/
theorem land_step {α : Type} {Q : α → sProp 𝕄} (R : sProp 𝕄) (i : Fin 15)
    {h1 h2} {cont : PUnit → Prog (TpuEff nD τ sig (Elt F) Λ₀ .tc) α}
    (h : iprop(ctx W K ∗ landSt W c i ∗ R) ⊢ wp frame (wpE (defs₀ (F := F)) 𝒱₀ (c : Thread nD τ) none) Set.univ (cont ⟨⟩) Q) :
    iprop(ctx W K ∗ recvSt c i.val ∗ R)
      ⊢ wp frame (wpE (defs₀ (F := F)) 𝒱₀ (c : Thread nD τ) none) Set.univ
          (.op (.waitDma2 (recvS i.rev) (slotM 0) (slotM i.rev.succ) h1 h2) cont) Q := by
  unfold recvSt owing
  unfold landSt owing at h
  rw [geq_take i] at *
  iintro ⟨#HC, ⟨⟨%Wt, HO⟩, ⟨⟨Hc, Ha⟩, Hcs⟩, Hsl⟩, HR⟩
  iapply (Rounds.wp_wait_rest_token 𝒱₀ ER (rd W) (c : Thread nD τ) none (κ := K (c, some (.inr i.rev)))
      (wpE_waitDma2_eq 𝒱₀ (c : Thread nD τ) none Set.univ) (Set.mem_univ _) () (O := 0) (W := Wt) (R := 0) (m := 0) (T := ∅)
      (by rw [Nat.zero_add, expect_own W c (own_recv i.rev)]; rfl)) $$ [HO Hc Ha]
  · isplitr; · iapply (ctx_inv W K (c, some (.inr i.rev))); iexact HC
    isplitl [Hc]; · iexact Hc
    isplitl [HO]; · iexact HO
    isplitr; · rw [MayWait_zero]; iempintro
    iexact Ha
  iintro ⟨HO, Ha, -, Hp⟩
  ihave Hp' := (Entails.of_eq (rest_recv W c i.rev)) $$ Hp
  iapply h
  isplitr; · iexact HC
  isplitr [HR]
  · isplitl [HO]; · iexists _; iexact HO
    isplitl [Hcs]; · iexact Hcs
    isplitr [Hsl]
    · isplitl [Hp']; · iexact Hp'
      iexact Ha
    · iexact Hsl
  · iexact HR

/-- The load of the slot that arrived: what is loaded is the sender's block. -/
theorem take_step {α : Type} {Q : α → sProp 𝕄} (R : sProp 𝕄) (i : Fin 15)
    {hl} {cont : Vec F S1x26x512 .bf16 → Prog (TpuEff nD τ sig (Elt F) Λ₀ .tc) α}
    (h : iprop(ctx W K ∗ recvSt c (i.val + 1) ∗ R)
      ⊢ wp frame (wpE (defs₀ (F := F)) 𝒱₀ (c : Thread nD τ) none) Set.univ (cont (blk W (aft c i.rev))) Q) :
    iprop(ctx W K ∗ landSt W c i ∗ R)
      ⊢ wp frame (wpE (defs₀ (F := F)) 𝒱₀ (c : Thread nD τ) none) Set.univ
          (.op (.load (gM : Memref sig .tc .vmem S16x26x512 .bf16) (slotR i.rev.succ).toLoadRect hl) cont) Q := by
  unfold landSt
  unfold recvSt at h
  rw [lth_put i] at *
  unfold recvPay slotPts
  iintro ⟨#HC, ⟨HO, Hcs, ⟨⟨%f, %hf, Hd⟩, Ha⟩, Hsl⟩, HR⟩
  iapply (wp_load 𝒱₀ (c : Thread nD τ) none Set.univ (m := (gM : Memref sig .tc .vmem S16x26x512 .bf16)) (r := (slotR i.rev.succ).toLoadRect)
    (S := (slotM i.rev.succ).view.set) (f := f) (le_of_eq (View.set_reshape _ _ |>.trans (View.set_slice _ _)).symm)) $$ Hd
  iintro Hd
  rw [show (gM : Memref sig .tc .vmem S16x26x512 .bf16).view.readAt (Elt F) (slotR i.rev.succ).toLoadRect f = blk W (aft c i.rev) from hf]
  iapply h
  isplitr; · iexact HC
  isplitr [HR]
  · isplitl [HO]; · iexact HO
    isplitl [Hcs]; · iexact Hcs
    isplitr [Hsl]
    · isplitl [Hd]; · iexists f; unfold slotPts; iexact Hd
      iexact Ha
    · iexact Hsl
  · iexact HR

/-- The two, one after the other. -/
theorem recv_step {α : Type} {Q : α → sProp 𝕄} (R : sProp 𝕄) (i : Fin 15)
    {h1 h2 hl} {cont : Vec F S1x26x512 .bf16 → Prog (TpuEff nD τ sig (Elt F) Λ₀ .tc) α}
    (h : iprop(ctx W K ∗ recvSt c (i.val + 1) ∗ R)
      ⊢ wp frame (wpE (defs₀ (F := F)) 𝒱₀ (c : Thread nD τ) none) Set.univ (cont (blk W (aft c i.rev))) Q) :
    iprop(ctx W K ∗ recvSt c i.val ∗ R)
      ⊢ wp frame (wpE (defs₀ (F := F)) 𝒱₀ (c : Thread nD τ) none) Set.univ
          (.op (.waitDma2 (recvS i.rev) (slotM 0) (slotM i.rev.succ) h1 h2) fun _ =>
            .op (.load (gM : Memref sig .tc .vmem S16x26x512 .bf16) (slotR i.rev.succ).toLoadRect hl) cont) Q :=
  land_step W K c R i (take_step W K c R i h)

/-! ## The waits for the departures -/

/-- Before the wait on send semaphore `n`: the credits and places of the waits to come, the shares of slot 0 of those
    behind. -/
def backSt (n : ℕ) : sProp 𝕄 :=
  iprop(owing c 0
    ∗ (bigSep (geq n) fun k => iprop(cred (tallyAt (sendCell c k) () N) ∗ atPos ER (sendCell c k) 0 ∅ 0))
    ∗ bigSep (lth n) fun k => iprop(sendPay W c k ∗ atPos ER (sendCell c k) 1 ∅ 0))

/-- A wait for a departure returns that copy's share of slot 0. -/
theorem back_step {α : Type} {Q : α → sProp 𝕄} (R : sProp 𝕄) (k : Fin 15)
    {h1 h2} {cont : PUnit → Prog (TpuEff nD τ sig (Elt F) Λ₀ .tc) α}
    (h : iprop(ctx W K ∗ backSt W c (k.val + 1) ∗ R)
      ⊢ wp frame (wpE (defs₀ (F := F)) 𝒱₀ (c : Thread nD τ) none) Set.univ (cont ⟨⟩) Q) :
    iprop(ctx W K ∗ backSt W c k.val ∗ R)
      ⊢ wp frame (wpE (defs₀ (F := F)) 𝒱₀ (c : Thread nD τ) none) Set.univ
          (.op (.waitDma2 (sendS k) (slotM k.rev.succ) (slotM 0) h1 h2) cont) Q := by
  unfold backSt owing at h ⊢
  rw [geq_take k, lth_put k] at *
  iintro ⟨#HC, ⟨⟨%Wt, HO⟩, ⟨⟨Hc, Ha⟩, Hcs⟩, Hsl⟩, HR⟩
  iapply (Rounds.wp_wait_rest_token 𝒱₀ ER (rd W) (c : Thread nD τ) none (κ := K (c, some (.inl k)))
      (wpE_waitDma2_eq 𝒱₀ (c : Thread nD τ) none Set.univ) (Set.mem_univ _) () (O := 0) (W := Wt) (R := 0) (m := 0) (T := ∅)
      (by rw [Nat.zero_add, expect_own W c (own_send k)]; rfl)) $$ [HO Hc Ha]
  · isplitr; · iapply (ctx_inv W K (c, some (.inl k))); iexact HC
    isplitl [Hc]; · iexact Hc
    isplitl [HO]; · iexact HO
    isplitr; · rw [MayWait_zero]; iempintro
    iexact Ha
  iintro ⟨HO, Ha, -, Hp⟩
  ihave Hp' := (Entails.of_eq (rest_send W c k)) $$ Hp
  iapply h
  isplitr; · iexact HC
  isplitr [HR]
  · isplitl [HO]; · iexists _; iexact HO
    isplitl [Hcs]; · iexact Hcs
    isplitr [Hsl]
    · isplitl [Hp']; · iexact Hp'
      iexact Ha
    · iexact Hsl
  · iexact HR

end Steps

end Cert.KernelIdealProof

end
-- ==== Proof.IdealValues.lean ====
/-
# The values on a device

What the text computes on one device from what it was given — its tokens, the experts they were sent to, its two experts'
weights — up to the two pieces stored in slot 0, and what it computes in the end from the sixteen blocks.
-/
module

public import proofs.«01_k».proof.Proof.IdealProto

@[expose] public section

set_option maxRecDepth 20000

noncomputable section

namespace Cert.KernelIdealProof

open Cert.KernelIdeal Cert.KernelIdeal.Gen

open Idealize.ShloMosaic
open Idealize.ShloMosaic.TcCoe
open Idealize.SL.Sem

variable {F : FTy → Type} [FloatOps F]

abbrev xM : Memref sig .tc .vmem S512x256 .f32 := Memref.whole cc0_stg0_0
abbrev rM : Memref sig .tc .vmem S256x32 .f32 := Memref.whole cc0_stg1_0
abbrev iM : Memref sig .tc .vmem S512x1 .i32 := Memref.whole cc0_stg2_0
abbrev wM : Memref sig .tc .vmem S2x256x512 .f32 := Memref.whole cc0_stg3_0
abbrev oM : Memref sig .tc .vmem S512x512 .f32 := Memref.whole cc0_stg4_0

/-- The places of the two experts' weights. -/
abbrev wR0 : Rect S2x256x512 := Rect.unit (s := S2x256x512) ![0, 0, 0] S1x256x512.size inb_S2x256x512_S1x256x512_0_0_0
abbrev wR1 : Rect S2x256x512 := Rect.unit (s := S2x256x512) ![1, 0, 0] S1x256x512.size inb_S2x256x512_S1x256x512_1_0_0
/-- The places in slot 0 of the rows and of the token numbers. -/
abbrev rowsR : Rect S16x26x512 := Rect.unit (s := S16x26x512) ![0, 0, 0] S1x24x512.size inb_S16x26x512_S1x24x512_0_0_0
abbrev idsR : Rect S16x26x512 := Rect.unit (s := S16x26x512) ![0, 24, 0] S1x2x512.size inb_S16x26x512_S1x2x512_0_24_0

/-! ## Before the exchange -/

section Before

variable (c : Dev nD) (X : Vec F S512x256 .f32) (I : Vec F S512x1 .i32) (E : Vec F S2x256x512 .f32)

/-- The device's number. -/
def pos : BitVec 32 := Scalar.remsi (Scalar.divsi (Dev.word c) 1#32) 16#32
/-- Which tokens go to this device's experts. -/
def mine : Vec F S512x2 .f32 := k0_pay1 (pos c) I
/-- How many went there up to each token. -/
def count : Vec F S512x2 .f32 := k0_pay2 (pos c) I
/-- Half. -/
def half : Vec F S512x2 .f32 := k0_pay3
/-- Which token sits at which of the 24 places. -/
def place : Vec F S512x24 .f32 := k0_pay4 (mine c I) (count c I) half
/-- The first expert's rows. -/
def rows0 : Vec F S12x512 .f32 := k0_pay6 (mine c I) (count c I) half X (wM.view.readAt (Elt F) wR0.toLoadRect E)
/-- The second expert's tokens. -/
def toks1 : Vec F S12x256 .f32 := k0_pay7 (mine c I) (count c I) half X
/-- The second expert's weights. -/
def wts1 : Vec F S256x512 .f32 := k0_pay8 (wM.view.readAt (Elt F) wR1.toLoadRect E)
/-- The rows as stored. -/
def rowsSt : Vec F S1x24x512 .bf16 := k0_pay9 (rows0 c X I E) (toks1 c X I) (wts1 E) (constant S12x512 .f32 0x00000000#32)
/-- The token numbers as stored. -/
def idsSt : Vec F S1x2x512 .bf16 := k0_pay10 (place c I)

/-- The buffer after the two stores, from what it held before. -/
def stored (f : (cc0_scratch0 : Ref sig .tc).ty.Contents (Elt F)) : (cc0_scratch0 : Ref sig .tc).ty.Contents (Elt F) :=
  (gM.access idsR).write (Elt F) ((gM.access rowsR).write (Elt F) f (rowsSt c X I E) Finset.univ) (idsSt c I) Finset.univ

/-- In slot 0 nothing is left of what the buffer held before. -/
theorem stored_slot (f f' : (cc0_scratch0 : Ref sig .tc).ty.Contents (Elt F)) (i : S16x26x512.Idx) (hi : i ∈ slotSet 0) :
    stored c X I E f i = stored c X I E f' i := by
  have hi0 := (mem_slotSet 0 i).mp hi
  have e1 : (gM.access rowsR).set = rowsR.set := View.set_slice_whole _ _
  have e2 : (gM.access idsR).set = idsR.set := View.set_slice_whole _ _
  unfold stored
  by_cases h2 : i ∈ (gM.access idsR).set
  · obtain ⟨x, -, rfl⟩ := Finset.mem_map.mp h2
    rw [View.write_emb_of_mem _ _ (Finset.mem_univ x), View.write_emb_of_mem _ _ (Finset.mem_univ x)]
  · rw [View.write_of_not_mem _ _ _ h2, View.write_of_not_mem _ _ _ h2]
    have h1 : i ∈ (gM.access rowsR).set := by
      rw [e1]; rw [e2] at h2
      refine Rect.mem_set_unit.mpr fun a => ?_
      have i1 := (i 1).isLt; have i2 := (i 2).isLt
      have h24 : ¬ 24 ≤ (i 1).val := fun hle => h2 (Rect.mem_set_unit.mpr fun a => by
        fin_cases a
        · simp [S1x2x512, hi0]
        · simp [S1x2x512]; exact ⟨hle, by simpa using i1⟩
        · simp [S1x2x512]; exact i2)
      fin_cases a
      · simp [S1x24x512, hi0]
      · simp [S1x24x512]; omega
      · simp [S1x24x512]; exact i2
    obtain ⟨x, -, rfl⟩ := Finset.mem_map.mp h1
    rw [View.write_emb_of_mem _ _ (Finset.mem_univ x), View.write_emb_of_mem _ _ (Finset.mem_univ x)]

theorem rows_slot (i : S16x26x512.Idx) (hi : i ∈ rowsR.set) : i ∈ slotSet 0 := by
  have h := Rect.mem_set_unit.mp hi 0
  refine (mem_slotSet 0 i).mpr ?_
  simp [S1x24x512] at h; simp [h]
theorem ids_slot (i : S16x26x512.Idx) (hi : i ∈ idsR.set) : i ∈ slotSet 0 := by
  have h := Rect.mem_set_unit.mp hi 0
  refine (mem_slotSet 0 i).mpr ?_
  simp [S1x2x512] at h; simp [h]

end Before

/-! ## After it -/

/-- A slot's rows, the first expert's and then the second's. -/
def slotRows (b : Vec F S1x26x512 .bf16) : Vec F S24x512 .bf16 := k0_pay14 b
/-- A slot's token numbers. -/
def slotIds (b : Vec F S1x26x512 .bf16) : Vec F S1x24 .f32 := k0_pay15 b

/-- The sixteen slots' token numbers, one after the other. -/
def allIds (b : Fin 16 → Vec F S1x26x512 .bf16) : Vec F S1x384 .f32 :=
  concatenate S1x384 1 [⟨S1x24, slotIds (b 0)⟩, ⟨S1x24, slotIds (b 1)⟩, ⟨S1x24, slotIds (b 2)⟩, ⟨S1x24, slotIds (b 3)⟩, ⟨S1x24, slotIds (b 4)⟩, ⟨S1x24, slotIds (b 5)⟩, ⟨S1x24, slotIds (b 6)⟩, ⟨S1x24, slotIds (b 7)⟩, ⟨S1x24, slotIds (b 8)⟩, ⟨S1x24, slotIds (b 9)⟩, ⟨S1x24, slotIds (b 10)⟩, ⟨S1x24, slotIds (b 11)⟩, ⟨S1x24, slotIds (b 12)⟩, ⟨S1x24, slotIds (b 13)⟩, ⟨S1x24, slotIds (b 14)⟩, ⟨S1x24, slotIds (b 15)⟩] concatenates_S1x24_S1x24_S1x24_S1x24_S1x24_S1x24_S1x24_S1x24_S1x24_S1x24_S1x24_S1x24_S1x24_S1x24_S1x24_S1x24_S1x384_d1

/-- The sixteen slots' rows, one after the other. -/
def allRows (b : Fin 16 → Vec F S1x26x512 .bf16) : Vec F S384x512 .bf16 :=
  concatenate S384x512 0 [⟨S24x512, slotRows (b 0)⟩, ⟨S24x512, slotRows (b 1)⟩, ⟨S24x512, slotRows (b 2)⟩, ⟨S24x512, slotRows (b 3)⟩, ⟨S24x512, slotRows (b 4)⟩, ⟨S24x512, slotRows (b 5)⟩, ⟨S24x512, slotRows (b 6)⟩, ⟨S24x512, slotRows (b 7)⟩, ⟨S24x512, slotRows (b 8)⟩, ⟨S24x512, slotRows (b 9)⟩, ⟨S24x512, slotRows (b 10)⟩, ⟨S24x512, slotRows (b 11)⟩, ⟨S24x512, slotRows (b 12)⟩, ⟨S24x512, slotRows (b 13)⟩, ⟨S24x512, slotRows (b 14)⟩, ⟨S24x512, slotRows (b 15)⟩] concatenates_S24x512_S24x512_S24x512_S24x512_S24x512_S24x512_S24x512_S24x512_S24x512_S24x512_S24x512_S24x512_S24x512_S24x512_S24x512_S24x512_S384x512_d0

/-- The result from the sixteen slots. -/
def outOf (b : Fin 16 → Vec F S1x26x512 .bf16) : Vec F S512x512 .f32 := k0_pay86 (k0_pay85 k0_pay11 (allIds b)) (allRows b)

/-- The sixteen slots of device `c` when all have landed: its own block, then those of the devices after it. -/
def slots (B : Dev nD → Vec F S1x26x512 .bf16) (c : Dev nD) (s : Fin 16) : Vec F S1x26x512 .bf16 :=
  Fin.cases (motive := fun _ => Vec F S1x26x512 .bf16) (B c) (fun j => B (aft c j)) s

end Cert.KernelIdealProof

end
-- ==== Proof.IdealParts.lean ====
/-
# The parts of the kernel's text

For each part of the text, what it takes the device from and to. `R` is whatever else the device holds, `k` what the text
does with the part's values.
-/
module

public import proofs.«01_k».proof.Proof.IdealSteps
public import proofs.«01_k».proof.Proof.IdealValues
public import proofs.«01_k».proof.Proof.Gen.KernelIdeal.Skeleton

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The text `p` on device `c`, with what holds after it. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole staging buffer of device `c`. -/
def stgPts (c : Dev nD) (b : Ref sig .tc) (f : b.ty.Contents (Elt F)) : sProp 𝕄 := ((c : Thread nD τ).loc b) ↦{fullShare} f

variable (W : Dev nD → (cc0_scratch0 : Ref sig .tc).ty.Contents (Elt F))
variable (K : Dev nD × Option (Fin 15 ⊕ Fin 15) → ℕ)

/-- An entailment into a text's last value. -/
theorem run_ret (c : Dev nD) {α : Type} {P : sProp 𝕄} {a : α} {Q : α → sProp 𝕄} (h : P ⊢ Q a) : P ⊢ run c (.ret a) Q := by
  unfold run; rw [wp_ret]; exact h.trans fupd_intro

/-- A part of the text at the buffers and semaphores of the launch. -/
abbrev here {β : Type 1} (p : (a0 : Memref sig .tc .vmem S512x256 .f32) → a0.IsWhole → (a1 : Memref sig .tc .vmem S256x32 .f32) → a1.IsWhole
    → (a2 : Memref sig .tc .vmem S512x1 .i32) → a2.IsWhole → (a3 : Memref sig .tc .vmem S2x256x512 .f32) → a3.IsWhole
    → (a4 : Memref sig .tc .vmem S512x512 .f32) → a4.IsWhole → (a5 : Memref sig .tc .vmem S16x26x512 .bf16) → a5.IsWhole
    → DmaSems sig S15 → DmaSems sig S15 → β) : β :=
  p xM (Memref.isWhole_whole _) rM (Memref.isWhole_whole _) iM (Memref.isWhole_whole _) wM (Memref.isWhole_whole _)
    oM (Memref.isWhole_whole _) gM (Memref.isWhole_whole _) cc0_scratch1 cc0_scratch2

/-- The barrier's semaphore, as the text passes it on. -/
abbrev barSs : Sems sig S_ := SemArray.scalar (sig.barrier 0 rfl)

section Parts
variable (c : Dev nD)

/-! ## The signals and the loads -/

/-- Signals 0 to 4. -/
theorem part1_run {α : Type} {Q : α → sProp 𝕄} (R : sProp 𝕄) {k}
    (h : ∀ u v, iprop(ctx W K ∗ sigSt c 5 ∗ R) ⊢ run c (k ⟨c, pos c, barSs, u, v⟩) Q) :
    iprop(ctx W K ∗ sigSt c 0 ∗ R) ⊢ run c (here (k0_part1 (F := F)) >>= k) Q := by
  rw [k0_part1_eq_skeleton]; unfold k0_part1_skel run
  simp only [semSignalWord, semWaitWord, Prog.lift, Prog.bind_op, Prog.bind_ret, Prog.pure_eq_ret, wp_deviceId]
  refine signal_step W K c R 0 _ (Fin.ext (k0_dev1_eq c)) ?_
  refine signal_step W K c R 1 _ (Fin.ext (k0_dev2_eq c)) ?_
  refine signal_step W K c R 2 _ (Fin.ext (k0_dev3_eq c)) ?_
  refine signal_step W K c R 3 _ (Fin.ext (k0_dev4_eq c)) ?_
  refine signal_step W K c R 4 _ (Fin.ext (k0_dev5_eq c)) ?_
  exact h _ _

/-- Signals 5 to 10. -/
theorem part2_run {α : Type} {Q : α → sProp 𝕄} (R : sProp 𝕄) {u v} {k}
    (h : ∀ r, iprop(ctx W K ∗ sigSt c 11 ∗ R) ⊢ run c (k r) Q) :
    iprop(ctx W K ∗ sigSt c 5 ∗ R) ⊢ run c (here (k0_part2 (F := F)) c (pos c) barSs u v >>= k) Q := by
  rw [k0_part2_eq_skeleton]; unfold k0_part2_skel run
  simp only [semSignalWord, semWaitWord, Prog.lift, Prog.bind_op, Prog.bind_ret, Prog.pure_eq_ret, wp_deviceId]
  refine signal_step W K c R 5 _ (Fin.ext (k0_dev6_eq c)) ?_
  refine signal_step W K c R 6 _ (Fin.ext (k0_dev7_eq c)) ?_
  refine signal_step W K c R 7 _ (Fin.ext (k0_dev8_eq c)) ?_
  refine signal_step W K c R 8 _ (Fin.ext (k0_dev9_eq c)) ?_
  refine signal_step W K c R 9 _ (Fin.ext (k0_dev10_eq c)) ?_
  refine signal_step W K c R 10 _ (Fin.ext (k0_dev11_eq c)) ?_
  exact h _

/-- Signals 11 to 14, and the experts the tokens go to. -/
theorem part3_run {α : Type} {Q : α → sProp 𝕄} (R : sProp 𝕄) (I : Vec F S512x1 .i32) {u v} {k}
    (h : iprop(ctx W K ∗ sigSt c 15 ∗ stgPts c cc0_stg2_0 I ∗ R) ⊢ run c (k ⟨mine c I, count c I, half⟩) Q) :
    iprop(ctx W K ∗ sigSt c 11 ∗ stgPts c cc0_stg2_0 I ∗ R) ⊢ run c (here (k0_part3 (F := F)) c (pos c) barSs u v >>= k) Q := by
  rw [k0_part3_eq_skeleton]; unfold k0_part3_skel run
  simp only [semSignalWord, semWaitWord, Prog.lift, Prog.bind_op, Prog.bind_ret, Prog.pure_eq_ret, wp_deviceId]
  refine signal_step W K c _ 11 _ (Fin.ext (k0_dev12_eq c)) ?_
  refine signal_step W K c _ 12 _ (Fin.ext (k0_dev13_eq c)) ?_
  refine signal_step W K c _ 13 _ (Fin.ext (k0_dev14_eq c)) ?_
  refine signal_step W K c _ 14 _ (Fin.ext (k0_dev15_eq c)) ?_
  have hz : (![0, 0] : Fin 2 → ℕ) = fun _ => 0 := funext fun a => by fin_cases a <;> rfl
  have hr : (iM : Memref sig .tc .vmem S512x1 .i32).view.readAt (Elt F) (Rect.unit (s := S512x1) ![0, 0] S512x1.size inb_S512x1_S512x1_0_0).toLoadRect I = I :=
    Memref.readAt_unit_zero (Elt F) cc0_stg2_0 hz _ I
  unfold stgPts at *
  iintro ⟨HC, HS, HI, HR⟩
  iapply (wp_load 𝒱₀ (c : Thread nD τ) none Set.univ (m := iM) (Finset.subset_univ _)) $$ HI
  iintro HI
  rw [hr]
  iapply h
  isplitl [HC]; · iexact HC
  isplitl [HS]; · iexact HS
  isplitl [HI] <;> iassumption

/-- The tokens and the weights. -/
theorem part4_run {α : Type} {Q : α → sProp 𝕄} (R : sProp 𝕄) (X : Vec F S512x256 .f32) (I : Vec F S512x1 .i32) (E : Vec F S2x256x512 .f32) {k}
    (h : iprop(stgPts c cc0_stg0_0 X ∗ stgPts c cc0_stg3_0 E ∗ R)
      ⊢ run c (k ⟨place c I, rows0 c X I E, toks1 c X I, wts1 E, constant S12x512 .f32 0x00000000#32⟩) Q) :
    iprop(stgPts c cc0_stg0_0 X ∗ stgPts c cc0_stg3_0 E ∗ R)
      ⊢ run c (here (k0_part4 (F := F)) (mine c I) (count c I) half >>= k) Q := by
  rw [k0_part4_eq_skeleton]; unfold k0_part4_skel run
  simp only [semSignalWord, semWaitWord, Prog.lift, Prog.bind_op, Prog.bind_ret, Prog.pure_eq_ret, wp_deviceId]
  have hz : (![0, 0] : Fin 2 → ℕ) = fun _ => 0 := funext fun a => by fin_cases a <;> rfl
  have hr : (xM : Memref sig .tc .vmem S512x256 .f32).view.readAt (Elt F) (Rect.unit (s := S512x256) ![0, 0] S512x256.size inb_S512x256_S512x256_0_0).toLoadRect X = X :=
    Memref.readAt_unit_zero (Elt F) cc0_stg0_0 hz _ X
  unfold stgPts at *
  iintro ⟨HX, HE, HR⟩
  iapply (wp_load 𝒱₀ (c : Thread nD τ) none Set.univ (m := xM) (Finset.subset_univ _)) $$ HX
  iintro HX
  iapply (wp_load 𝒱₀ (c : Thread nD τ) none Set.univ (m := wM) (Finset.subset_univ _)) $$ HE
  iintro HE
  iapply (wp_load 𝒱₀ (c : Thread nD τ) none Set.univ (m := wM) (Finset.subset_univ _)) $$ HE
  iintro HE
  rw [hr]
  iapply h
  isplitl [HX]; · iexact HX
  isplitl [HE] <;> iassumption

/-! ## The two stores and the barrier -/

/-- What the device holds for the copies before the barrier: its own tokens for them. -/
def sendToks : sProp 𝕄 :=
  bigSep Finset.univ fun k => iprop(dutyTok ER (sendCell c k) 0 0 ∗ dutyTok ER (recvCell (aft c k) k.rev) 0 0)

omit [FloatOps F] in
/-- The tokens for the copies and the slots they go to, copy by copy. -/
theorem sendToks_barPay : iprop((sendToks c : sProp 𝕄) ∗ bigSep Finset.univ fun k => barPay c k)
    ⊢ bigSep Finset.univ fun k => iprop(dutyTok ER (sendCell c k) 0 0 ∗ dutyTok ER (recvCell (aft c k) k.rev) 0 0 ∗ barPay c k) := by
  unfold sendToks
  refine BIBase.Entails.trans (Entails.of_eq (bigSep_sep Finset.univ _ _).symm) (bigSep_mono fun k _ => ?_)
  show iprop((dutyTok ER (sendCell c k) 0 0 ∗ dutyTok ER (recvCell (aft c k) k.rev) 0 0) ∗ barPay c k)
    ⊢ iprop(dutyTok ER (sendCell c k) 0 0 ∗ dutyTok ER (recvCell (aft c k) k.rev) 0 0 ∗ barPay c k)
  iintro ⟨⟨H1, H2⟩, H3⟩
  isplitl [H1]; · iexact H1
  isplitl [H2] <;> iassumption

/-- The two stores into slot 0 leave it holding the device's block. -/
theorem store_step {α : Type} {Q : α → sProp 𝕄} (R : sProp 𝕄) (X : Vec F S512x256 .f32) (I : Vec F S512x1 .i32) (E : Vec F S2x256x512 .f32) (f)
    (f₀) (hW : W c = stored c X I E f₀) {l1 l2 s1 s2 m1 m2} {cont : PUnit → Prog (TpuEff nD τ sig (Elt F) Λ₀ .tc) α}
    (h : iprop(slotPts c 0 fullShare (W c) ∗ R) ⊢ run c (cont ⟨⟩) Q) :
    iprop(slotPts c 0 fullShare f ∗ R)
      ⊢ run c (.op (.load gM rowsR.toLoadRect l1) fun _ => .op (.store gM rowsR (rowsSt c X I E) Finset.univ s1 m1) fun _ =>
          .op (.load gM idsR.toLoadRect l2) fun _ => .op (.store gM idsR (idsSt c I) Finset.univ s2 m2) cont) Q := by
  have hs1 : (gM : Memref sig .tc .vmem S16x26x512 .bf16).view.setOn rowsR.toLoadRect.set ⊆ slotSet 0 := fun i hi => by
    obtain ⟨x, hx, rfl⟩ := Finset.mem_map.mp hi
    exact rows_slot x hx
  have hs2 : (gM : Memref sig .tc .vmem S16x26x512 .bf16).view.setOn idsR.toLoadRect.set ⊆ slotSet 0 := fun i hi => by
    obtain ⟨x, hx, rfl⟩ := Finset.mem_map.mp hi
    exact ids_slot x hx
  have e1 : (gM.access rowsR).set = rowsR.set := View.set_slice_whole _ _
  have e2 : (gM.access idsR).set = idsR.set := View.set_slice_whole _ _
  have ht1 : (gM.access rowsR).setOn Finset.univ ⊆ slotSet 0 := fun i hi => rows_slot i (e1 ▸ hi)
  have ht2 : (gM.access idsR).setOn Finset.univ ⊆ slotSet 0 := fun i hi => ids_slot i (e2 ▸ hi)
  have hst : (((gM.access idsR).loc (c : Thread nD τ) ↦[slotSet 0]{fullShare}
      ((gM.access idsR).write (Elt F) ((gM.access rowsR).write (Elt F) f (rowsSt c X I E) Finset.univ) (idsSt c I) Finset.univ)) : sProp 𝕄)
        = slotPts c 0 fullShare (W c) := by
    rw [hW]; unfold slotPts; exact pointsTo_congr (stored_slot c X I E f f₀)
  iintro ⟨Hs, HR⟩
  unfold run at *
  iapply (wp_load 𝒱₀ (c : Thread nD τ) none Set.univ (m := gM) (r := rowsR.toLoadRect) (S := slotSet 0) (f := f) hs1) $$ [Hs]
  · unfold slotPts; iexact Hs
  iintro Hs
  iapply (wp_store 𝒱₀ (c : Thread nD τ) none Set.univ (m := gM) (r := rowsR) (Mk := Finset.univ) (S := slotSet 0) (f := f) ht1) $$ Hs
  iintro Hs
  iapply (wp_load 𝒱₀ (c : Thread nD τ) none Set.univ (m := gM) (r := idsR.toLoadRect) (S := slotSet 0) hs2) $$ Hs
  iintro Hs
  iapply (wp_store 𝒱₀ (c : Thread nD τ) none Set.univ (m := gM) (r := idsR) (Mk := Finset.univ) (S := slotSet 0) ht2) $$ Hs
  iintro Hs
  ihave Hs := (Entails.of_eq hst) $$ Hs
  iapply h
  isplitl [Hs] <;> iassumption

/-- The signals over, nothing of them is left but what is owed to the receive semaphores. -/
theorem sigSt_end : (sigSt c 15 : sProp 𝕄) = iprop(owing c (owedRecv 0 c) ∗ emp ∗ emp) := by
  unfold sigSt; rw [owedBar_end, geq_end, add_zero]; rfl

/-- Slot 0 written and the barrier passed, the device is ready for its copies. -/
theorem part5_run {α : Type} {Q : α → sProp 𝕄} (R : sProp 𝕄) (X : Vec F S512x256 .f32) (I : Vec F S512x1 .i32) (E : Vec F S2x256x512 .f32) (f)
    (f₀) (hW : W c = stored c X I E f₀) {k}
    (h : ∀ r, iprop(ctx W K ∗ sendSt W c 0 ∗ atPos ER (barCell c) 1 ∅ 0 ∗ R) ⊢ run c (k r) Q) :
    iprop(slotPts c 0 fullShare f ∗ ctx W K ∗ sigSt c 15 ∗ (cred (tallyAt (barCell c) () 15) ∗ atPos ER (barCell c) 0 ∅ 0 ∗ sendToks c) ∗ R)
      ⊢ run c (here (k0_part5 (F := F)) (pos c) barSs (place c I) (rows0 c X I E) (toks1 c X I) (wts1 E) (constant S12x512 .f32 0x00000000#32) >>= k) Q := by
  rw [k0_part5_eq_skeleton]; unfold k0_part5_skel
  simp only [semSignalWord, semWaitWord, Prog.lift, Prog.bind_op, Prog.bind_ret, Prog.pure_eq_ret, wp_deviceId]
  refine store_step W c _ X I E f f₀ hW ?_
  rw [sigSt_end]
  refine BIBase.Entails.trans ?_ (barrier_step W K c iprop(sendToks c ∗ slotPts c 0 fullShare (W c) ∗ R) (BIBase.Entails.trans ?_ (h _)))
  · iintro ⟨Hs, HC, ⟨HO, -, -⟩, ⟨Hc, Ha, Ht⟩, HR⟩
    isplitl [HC]; · iexact HC
    isplitl [HO Hc Ha]
    · isplitl [HO]; · iexact HO
      isplitl [Hc] <;> iassumption
    isplitl [Ht]; · iexact Ht
    isplitl [Hs] <;> iassumption
  · unfold sendSt sendToks
    rw [geq_zero, lth_zero]
    iintro ⟨HC, ⟨HO, Ha, Hp⟩, Ht, Hs, HR⟩
    isplitl [HC]; · iexact HC
    isplitr [Ha HR]
    · isplitl [HO]; · iexact HO
      isplitl [Ht Hp]
      · iapply (sendToks_barPay c)
        unfold sendToks
        isplitl [Ht] <;> iassumption
      isplitl [Hs]; · iexact Hs
      rw [bigSep_empty]; iempintro
    isplitl [Ha] <;> iassumption

/-! ## The copies -/

/-- Copies 0 to 1. -/
theorem part6_run {α : Type} {Q : α → sProp 𝕄} (R : sProp 𝕄) {u v : BitVec 32} {k}
    (h : ∀ r, iprop(ctx W K ∗ sendSt W c 2 ∗ R) ⊢ run c (k r) Q) :
    iprop(ctx W K ∗ sendSt W c 0 ∗ R) ⊢ run c (here (k0_part6 (F := F)) c (pos c) u v >>= k) Q := by
  rw [k0_part6_eq_skeleton]; unfold k0_part6_skel run
  simp only [Prog.lift, Prog.bind_op, Prog.bind_ret, Prog.pure_eq_ret]
  refine send_step W K c R 0 _ (Fin.ext (k0_dev16_eq c)) ?_
  refine send_step W K c R 1 _ (Fin.ext (k0_dev17_eq c)) ?_
  exact h _

/-- Copies 2 to 4. -/
theorem part7_run {α : Type} {Q : α → sProp 𝕄} (R : sProp 𝕄) {k}
    (h : ∀ r, iprop(ctx W K ∗ sendSt W c 5 ∗ R) ⊢ run c (k r) Q) :
    iprop(ctx W K ∗ sendSt W c 2 ∗ R) ⊢ run c (here (k0_part7 (F := F)) c (pos c) >>= k) Q := by
  rw [k0_part7_eq_skeleton]; unfold k0_part7_skel run
  simp only [Prog.lift, Prog.bind_op, Prog.bind_ret, Prog.pure_eq_ret]
  refine send_step W K c R 2 _ (Fin.ext (k0_dev18_eq c)) ?_
  refine send_step W K c R 3 _ (Fin.ext (k0_dev19_eq c)) ?_
  refine send_step W K c R 4 _ (Fin.ext (k0_dev20_eq c)) ?_
  exact h _

/-- Copies 5 to 6. -/
theorem part8_run {α : Type} {Q : α → sProp 𝕄} (R : sProp 𝕄) {u : BitVec 32} {k}
    (h : ∀ r, iprop(ctx W K ∗ sendSt W c 7 ∗ R) ⊢ run c (k r) Q) :
    iprop(ctx W K ∗ sendSt W c 5 ∗ R) ⊢ run c (here (k0_part8 (F := F)) c (pos c) u >>= k) Q := by
  rw [k0_part8_eq_skeleton]; unfold k0_part8_skel run
  simp only [Prog.lift, Prog.bind_op, Prog.bind_ret, Prog.pure_eq_ret]
  refine send_step W K c R 5 _ (Fin.ext (k0_dev21_eq c)) ?_
  refine send_step W K c R 6 _ (Fin.ext (k0_dev22_eq c)) ?_
  exact h _

/-- Copies 7 to 8. -/
theorem part9_run {α : Type} {Q : α → sProp 𝕄} (R : sProp 𝕄) {k}
    (h : ∀ r, iprop(ctx W K ∗ sendSt W c 9 ∗ R) ⊢ run c (k r) Q) :
    iprop(ctx W K ∗ sendSt W c 7 ∗ R) ⊢ run c (here (k0_part9 (F := F)) c (pos c) >>= k) Q := by
  rw [k0_part9_eq_skeleton]; unfold k0_part9_skel run
  simp only [Prog.lift, Prog.bind_op, Prog.bind_ret, Prog.pure_eq_ret]
  refine send_step W K c R 7 _ (Fin.ext (k0_dev23_eq c)) ?_
  refine send_step W K c R 8 _ (Fin.ext (k0_dev24_eq c)) ?_
  exact h _

/-- Copies 9 to 11. -/
theorem part10_run {α : Type} {Q : α → sProp 𝕄} (R : sProp 𝕄) {k}
    (h : ∀ r, iprop(ctx W K ∗ sendSt W c 12 ∗ R) ⊢ run c (k r) Q) :
    iprop(ctx W K ∗ sendSt W c 9 ∗ R) ⊢ run c (here (k0_part10 (F := F)) c (pos c) >>= k) Q := by
  rw [k0_part10_eq_skeleton]; unfold k0_part10_skel run
  simp only [Prog.lift, Prog.bind_op, Prog.bind_ret, Prog.pure_eq_ret]
  refine send_step W K c R 9 _ (Fin.ext (k0_dev25_eq c)) ?_
  refine send_step W K c R 10 _ (Fin.ext (k0_dev26_eq c)) ?_
  refine send_step W K c R 11 _ (Fin.ext (k0_dev27_eq c)) ?_
  exact h _

/-- Copies 12 to 13. -/
theorem part11_run {α : Type} {Q : α → sProp 𝕄} (R : sProp 𝕄) {u v : BitVec 32} {k}
    (h : ∀ r, iprop(ctx W K ∗ sendSt W c 14 ∗ R) ⊢ run c (k r) Q) :
    iprop(ctx W K ∗ sendSt W c 12 ∗ R) ⊢ run c (here (k0_part11 (F := F)) c (pos c) u v >>= k) Q := by
  rw [k0_part11_eq_skeleton]; unfold k0_part11_skel run
  simp only [Prog.lift, Prog.bind_op, Prog.bind_ret, Prog.pure_eq_ret]
  refine send_step W K c R 12 _ (Fin.ext (k0_dev28_eq c)) ?_
  refine send_step W K c R 13 _ (Fin.ext (k0_dev29_eq c)) ?_
  exact h _

/-- What is left of the copies when all have been started: what remains of slot 0, the credits of the departures. -/
def sent : sProp 𝕄 := iprop(slotPts c 0 (shareLeft 15) (W c) ∗ bigSep Finset.univ fun k => cred (tallyAt (sendCell c k) () N))

/-- What the waits for the landings need. -/
def recvHold : sProp 𝕄 :=
  bigSep Finset.univ fun i : Fin 15 => iprop(cred (tallyAt (recvCell c i.rev) () N) ∗ atPos ER (recvCell c i.rev) 0 ∅ 0)

/-- The load of the device's own slot between the last copy and the first landing. -/
theorem own_step {α : Type} {Q : α → sProp 𝕄} (R : sProp 𝕄) {l} {cont : Vec F S1x26x512 .bf16 → Prog (TpuEff nD τ sig (Elt F) Λ₀ .tc) α}
    (h : iprop(ctx W K ∗ recvSt c 0 ∗ sent W c ∗ R) ⊢ run c (cont (blk W c)) Q) :
    iprop(ctx W K ∗ sendSt W c 15 ∗ recvHold c ∗ R) ⊢ run c (.op (.load (gM : Memref sig .tc .vmem S16x26x512 .bf16) (slotR 0).toLoadRect l) cont) Q := by
  unfold sendSt
  rw [owedRecv_end, geq_end, lth_end]
  unfold run recvSt sent recvHold slotPts at *
  rw [geq_zero, lth_zero] at h
  iintro ⟨HC, ⟨HO, -, Hs, Hcr⟩, Hh, HR⟩
  iapply (wp_load 𝒱₀ (c : Thread nD τ) none Set.univ (m := (gM : Memref sig .tc .vmem S16x26x512 .bf16)) (r := (slotR 0).toLoadRect)
    (S := (slotM 0).view.set) (f := W c) (le_of_eq (View.set_reshape _ _ |>.trans (View.set_slice _ _)).symm)) $$ Hs
  iintro Hs
  iapply h
  isplitl [HC]; · iexact HC
  isplitl [HO Hh]
  · isplitl [HO]; · iexact HO
    isplitl [Hh]; · iexact Hh
    rw [bigSep_empty]; iempintro
  isplitl [Hs Hcr]
  · isplitl [Hs] <;> iassumption
  · iexact HR

/-- The last copy, the device's own block, the first landing. -/
theorem part12_run {α : Type} {Q : α → sProp 𝕄} (R : sProp 𝕄) {u : BitVec 32} {k}
    (h : iprop(ctx W K ∗ recvSt c 1 ∗ sent W c ∗ R)
      ⊢ run c (k ⟨k0_pay11, slotRows (blk W c), slotIds (blk W c), blk W (aft c 14), k0_pay16 (blk W (aft c 14))⟩) Q) :
    iprop(ctx W K ∗ sendSt W c 14 ∗ recvHold c ∗ R) ⊢ run c (here (k0_part12 (F := F)) c u >>= k) Q := by
  rw [k0_part12_eq_skeleton]; unfold k0_part12_skel run
  simp only [Prog.lift, Prog.bind_op, Prog.bind_ret, Prog.pure_eq_ret]
  refine send_step W K c _ 14 _ (Fin.ext (k0_dev30_eq c)) ?_
  refine own_step W K c R ?_
  exact recv_step W K c _ 0 h

/-! ## The landings -/

/-- Landing 1. -/
theorem part13_run {α : Type} {Q : α → sProp 𝕄} (R : sProp 𝕄) {u : BitVec 32} {b} {k}
    (h : iprop(ctx W K ∗ recvSt c 2 ∗ R) ⊢ run c (k ⟨slotRows b, slotIds b, k0_pay22 (blk W (aft c 13)), slotRows (blk W (aft c 13)), k0_pay24 (blk W (aft c 13))⟩) Q) :
    iprop(ctx W K ∗ recvSt c 1 ∗ R) ⊢ run c (here (k0_part13 (F := F)) u b (k0_pay16 b) >>= k) Q := by
  rw [k0_part13_eq_skeleton]; unfold k0_part13_skel run
  simp only [Prog.lift, Prog.bind_op, Prog.bind_ret, Prog.pure_eq_ret]
  exact recv_step W K c R 1 h

/-- Landing 2. -/
theorem part14_run {α : Type} {Q : α → sProp 𝕄} (R : sProp 𝕄) {u : BitVec 32} {b} {k}
    (h : iprop(ctx W K ∗ recvSt c 3 ∗ R) ⊢ run c (k ⟨slotIds b, slotRows (blk W (aft c 12)), slotIds (blk W (aft c 12))⟩) Q) :
    iprop(ctx W K ∗ recvSt c 2 ∗ R) ⊢ run c (here (k0_part14 (F := F)) u (k0_pay22 b) (k0_pay24 b) >>= k) Q := by
  rw [k0_part14_eq_skeleton]; unfold k0_part14_skel run
  simp only [Prog.lift, Prog.bind_op, Prog.bind_ret, Prog.pure_eq_ret]
  exact recv_step W K c R 2 h

/-- Landing 3. -/
theorem part15_run {α : Type} {Q : α → sProp 𝕄} (R : sProp 𝕄) {u v : BitVec 32} {k}
    (h : iprop(ctx W K ∗ recvSt c 4 ∗ R) ⊢ run c (k ⟨slotRows (blk W (aft c 11)), slotIds (blk W (aft c 11))⟩) Q) :
    iprop(ctx W K ∗ recvSt c 3 ∗ R) ⊢ run c (here (k0_part15 (F := F)) u v >>= k) Q := by
  rw [k0_part15_eq_skeleton]; unfold k0_part15_skel run
  simp only [Prog.lift, Prog.bind_op, Prog.bind_ret, Prog.pure_eq_ret]
  exact recv_step W K c R 3 h

/-- Landings 4 and 5. -/
theorem part16_run {α : Type} {Q : α → sProp 𝕄} (R : sProp 𝕄) {u : BitVec 32} {k}
    (h : iprop(ctx W K ∗ recvSt c 6 ∗ R) ⊢ run c (k ⟨slotRows (blk W (aft c 10)), slotIds (blk W (aft c 10)), k0_pay38 (blk W (aft c 9)), k0_pay39 (blk W (aft c 9)), k0_pay40 (blk W (aft c 9)), k0_pay41 (blk W (aft c 9))⟩) Q) :
    iprop(ctx W K ∗ recvSt c 4 ∗ R) ⊢ run c (here (k0_part16 (F := F)) u >>= k) Q := by
  rw [k0_part16_eq_skeleton]; unfold k0_part16_skel run
  simp only [Prog.lift, Prog.bind_op, Prog.bind_ret, Prog.pure_eq_ret]
  refine recv_step W K c R 4 ?_
  exact recv_step W K c R 5 h

/-- Landing 6. -/
theorem part17_run {α : Type} {Q : α → sProp 𝕄} (R : sProp 𝕄) {u : BitVec 32} {b} {k}
    (h : iprop(ctx W K ∗ recvSt c 7 ∗ R) ⊢ run c (k ⟨slotRows b, slotIds b, slotRows (blk W (aft c 8)), k0_pay47 (blk W (aft c 8)), k0_pay48 (blk W (aft c 8)), 16#32⟩) Q) :
    iprop(ctx W K ∗ recvSt c 6 ∗ R) ⊢ run c (here (k0_part17 (F := F)) u (k0_pay38 b) (k0_pay39 b) (k0_pay40 b) (k0_pay41 b) >>= k) Q := by
  rw [k0_part17_eq_skeleton]; unfold k0_part17_skel run
  simp only [Prog.lift, Prog.bind_op, Prog.bind_ret, Prog.pure_eq_ret]
  exact recv_step W K c R 6 h

/-- Landing 7. -/
theorem part18_run {α : Type} {Q : α → sProp 𝕄} (R : sProp 𝕄) {u v w : BitVec 32} {b} {k}
    (h : iprop(ctx W K ∗ recvSt c 8 ∗ R) ⊢ run c (k ⟨slotIds b, slotRows (blk W (aft c 7)), slotIds (blk W (aft c 7))⟩) Q) :
    iprop(ctx W K ∗ recvSt c 7 ∗ R) ⊢ run c (here (k0_part18 (F := F)) u v (k0_pay47 b) (k0_pay48 b) w >>= k) Q := by
  rw [k0_part18_eq_skeleton]; unfold k0_part18_skel run
  simp only [Prog.lift, Prog.bind_op, Prog.bind_ret, Prog.pure_eq_ret]
  exact recv_step W K c R 7 h

/-- Landing 8, and the wait of landing 9. -/
theorem part19_run {α : Type} {Q : α → sProp 𝕄} (R : sProp 𝕄) {u : BitVec 32} {k}
    (h : iprop(ctx W K ∗ landSt W c 9 ∗ R) ⊢ run c (k ⟨slotRows (blk W (aft c 6)), slotIds (blk W (aft c 6))⟩) Q) :
    iprop(ctx W K ∗ recvSt c 8 ∗ R) ⊢ run c (here (k0_part19 (F := F)) u >>= k) Q := by
  rw [k0_part19_eq_skeleton]; unfold k0_part19_skel run
  simp only [Prog.lift, Prog.bind_op, Prog.bind_ret, Prog.pure_eq_ret]
  refine recv_step W K c R 8 ?_
  exact land_step W K c R 9 h

/-- The load of landing 9, and landing 10. -/
theorem part20_run {α : Type} {Q : α → sProp 𝕄} (R : sProp 𝕄) {u : BitVec 32} {k}
    (h : iprop(ctx W K ∗ recvSt c 11 ∗ R)
      ⊢ run c (k ⟨slotRows (blk W (aft c 5)), slotIds (blk W (aft c 5)), k0_pay62 (blk W (aft c 4)), k0_pay63 (blk W (aft c 4)), k0_pay64 (blk W (aft c 4)), k0_pay65 (blk W (aft c 4))⟩) Q) :
    iprop(ctx W K ∗ landSt W c 9 ∗ R) ⊢ run c (here (k0_part20 (F := F)) u >>= k) Q := by
  rw [k0_part20_eq_skeleton]; unfold k0_part20_skel run
  simp only [Prog.lift, Prog.bind_op, Prog.bind_ret, Prog.pure_eq_ret]
  refine take_step W K c R 9 ?_
  exact recv_step W K c R 10 h

/-- Landing 11. -/
theorem part21_run {α : Type} {Q : α → sProp 𝕄} (R : sProp 𝕄) {u : BitVec 32} {b} {k}
    (h : iprop(ctx W K ∗ recvSt c 12 ∗ R) ⊢ run c (k ⟨slotRows b, slotIds b, slotRows (blk W (aft c 3)), slotIds (blk W (aft c 3))⟩) Q) :
    iprop(ctx W K ∗ recvSt c 11 ∗ R) ⊢ run c (here (k0_part21 (F := F)) u (k0_pay62 b) (k0_pay63 b) (k0_pay64 b) (k0_pay65 b) >>= k) Q := by
  rw [k0_part21_eq_skeleton]; unfold k0_part21_skel run
  simp only [Prog.lift, Prog.bind_op, Prog.bind_ret, Prog.pure_eq_ret]
  exact recv_step W K c R 11 h

/-- Landing 12. -/
theorem part22_run {α : Type} {Q : α → sProp 𝕄} (R : sProp 𝕄) {u v : BitVec 32} {k}
    (h : iprop(ctx W K ∗ recvSt c 13 ∗ R) ⊢ run c (k ⟨slotRows (blk W (aft c 2)), slotIds (blk W (aft c 2))⟩) Q) :
    iprop(ctx W K ∗ recvSt c 12 ∗ R) ⊢ run c (here (k0_part22 (F := F)) u v >>= k) Q := by
  rw [k0_part22_eq_skeleton]; unfold k0_part22_skel run
  simp only [Prog.lift, Prog.bind_op, Prog.bind_ret, Prog.pure_eq_ret]
  exact recv_step W K c R 12 h

/-- Landings 13 and 14. -/
theorem part23_run {α : Type} {Q : α → sProp 𝕄} (R : sProp 𝕄) {u : BitVec 32} {k}
    (h : iprop(ctx W K ∗ recvSt c 15 ∗ R) ⊢ run c (k ⟨slotRows (blk W (aft c 1)), slotIds (blk W (aft c 1)), k0_pay80 (blk W (aft c 0)), k0_pay81 (blk W (aft c 0))⟩) Q) :
    iprop(ctx W K ∗ recvSt c 13 ∗ R) ⊢ run c (here (k0_part23 (F := F)) u >>= k) Q := by
  rw [k0_part23_eq_skeleton]; unfold k0_part23_skel run
  simp only [Prog.lift, Prog.bind_op, Prog.bind_ret, Prog.pure_eq_ret]
  refine recv_step W K c R 13 ?_
  exact recv_step W K c R 14 h

/-! ## The departures -/

/-- Departures 0 and 1. -/
theorem part24_run {α : Type} {Q : α → sProp 𝕄} (R : sProp 𝕄) {b} {k}
    (h : iprop(ctx W K ∗ backSt W c 2 ∗ R) ⊢ run c (k ⟨slotRows b, slotIds b⟩) Q) :
    iprop(ctx W K ∗ backSt W c 0 ∗ R) ⊢ run c (here (k0_part24 (F := F)) (k0_pay80 b) (k0_pay81 b) >>= k) Q := by
  rw [k0_part24_eq_skeleton]; unfold k0_part24_skel run
  simp only [Prog.lift, Prog.bind_op, Prog.bind_ret, Prog.pure_eq_ret]
  refine back_step W K c R 0 ?_
  exact back_step W K c R 1 h

/-- Departures 2 to 5. -/
theorem part25_run {α : Type} {Q : α → sProp 𝕄} (R : sProp 𝕄) {k}
    (h : iprop(ctx W K ∗ backSt W c 6 ∗ R) ⊢ run c (k ⟨⟩) Q) :
    iprop(ctx W K ∗ backSt W c 2 ∗ R) ⊢ run c (here (k0_part25 (F := F)) >>= k) Q := by
  rw [k0_part25_eq_skeleton]; unfold k0_part25_skel run
  simp only [Prog.lift, Prog.bind_op, Prog.bind_ret, Prog.pure_eq_ret]
  refine back_step W K c R 2 ?_
  refine back_step W K c R 3 ?_
  refine back_step W K c R 4 ?_
  exact back_step W K c R 5 h

/-- Departures 6 to 8. -/
theorem part26_run {α : Type} {Q : α → sProp 𝕄} (R : sProp 𝕄) {k}
    (h : iprop(ctx W K ∗ backSt W c 9 ∗ R) ⊢ run c (k ⟨⟩) Q) :
    iprop(ctx W K ∗ backSt W c 6 ∗ R) ⊢ run c (here (k0_part26 (F := F)) >>= k) Q := by
  rw [k0_part26_eq_skeleton]; unfold k0_part26_skel run
  simp only [Prog.lift, Prog.bind_op, Prog.bind_ret, Prog.pure_eq_ret]
  refine back_step W K c R 6 ?_
  refine back_step W K c R 7 ?_
  exact back_step W K c R 8 h

/-- Departures 9 to 12. -/
theorem part27_run {α : Type} {Q : α → sProp 𝕄} (R : sProp 𝕄) {k}
    (h : iprop(ctx W K ∗ backSt W c 13 ∗ R) ⊢ run c (k ⟨⟩) Q) :
    iprop(ctx W K ∗ backSt W c 9 ∗ R) ⊢ run c (here (k0_part27 (F := F)) >>= k) Q := by
  rw [k0_part27_eq_skeleton]; unfold k0_part27_skel run
  simp only [Prog.lift, Prog.bind_op, Prog.bind_ret, Prog.pure_eq_ret]
  refine back_step W K c R 9 ?_
  refine back_step W K c R 10 ?_
  refine back_step W K c R 11 ?_
  exact back_step W K c R 12 h

end Parts

end Cert.KernelIdealProof

end
-- ==== Proof.IdealBody.lean ====
/-
# The kernel's text on one device, from its start to its end
-/
module

public import proofs.«01_k».proof.Proof.IdealParts
public import Idealize.ShloMosaic.Lib.Ring

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (W : Dev nD → (cc0_scratch0 : Ref sig .tc).ty.Contents (Elt F))
variable (K : Dev nD × Option (Fin 15 ⊕ Fin 15) → ℕ)
variable (c : Dev nD)

/-! ## The buffer in slots -/

omit [FloatOps F] in
/-- A family over the sixteen slots is its member at slot 0 and the family over the others. -/
theorem slots_split (Φ : Fin 16 → sProp 𝕄) : bigSep Finset.univ Φ = iprop(Φ 0 ∗ bigSep Finset.univ fun k : Fin 15 => Φ k.succ) := by
  rw [Fin.univ_succ, Finset.cons_eq_insert, bigSep_insert (by simp [Fin.succ_ne_zero]), bigSep_map]
  rfl

omit [FloatOps F] in
/-- The buffer held whole is slot 0 and the slots to hand over. -/
theorem scratch_split (f : (cc0_scratch0 : Ref sig .tc).ty.Contents (Elt F)) :
    (stgPts c cc0_scratch0 f : sProp 𝕄) ⊢ iprop(slotPts c 0 fullShare f ∗ bigSep Finset.univ fun k : Fin 15 => iprop(∃ f, slotPts c k.succ fullShare f)) := by
  unfold stgPts
  refine BIBase.Entails.trans (Entails.of_eq (Ring.pointsTo_blocks (ℓ := (c : Thread nD τ).loc cc0_scratch0) slotSet slot_disjoint slot_cover f)) ?_
  rw [slots_split]
  refine sep_mono_right (bigSep_mono fun k _ => ?_)
  exact exists_intro (Φ := fun f => slotPts c k.succ fullShare f) f

omit [FloatOps F] in
/-- The slots, each at some contents, are the buffer at some contents. -/
theorem scratch_join (f₀ : (cc0_scratch0 : Ref sig .tc).ty.Contents (Elt F)) : iprop((∃ f, slotPts c 0 fullShare f) ∗ bigSep Finset.univ fun k : Fin 15 => iprop(∃ f, slotPts c k.succ fullShare f))
    ⊢ (iprop(∃ f, stgPts c cc0_scratch0 f) : sProp 𝕄) := by
  unfold stgPts
  refine BIBase.Entails.trans (Entails.of_eq (slots_split fun s => iprop(∃ f, slotPts c s fullShare f)).symm) ?_
  unfold slotPts
  exact Ring.pointsTo_blocks_join_exists slotSet slot_disjoint slot_cover (ℓ := (c : Thread nD τ).loc cc0_scratch0) f₀

/-- What is left of slot 0 with the shares of the first `n` copies is slot 0. -/
theorem share_join : ∀ n ≤ 15, iprop(slotPts c 0 (shareLeft n) (W c) ∗ bigSep (lth n) fun k => sendPay W c k) ⊢ (slotPts c 0 fullShare (W c) : sProp 𝕄) := by
  intro n
  induction n with
  | zero => intro _; rw [lth_zero, bigSep_empty]; iintro ⟨H, -⟩; iexact H
  | succ n ih =>
    intro hn
    refine BIBase.Entails.trans ?_ (ih (by omega))
    rw [show n = (⟨n, by omega⟩ : Fin 15).val from rfl, lth_put]
    unfold sendPay
    iintro ⟨Hr, Hl, Hs⟩
    isplitl [Hr Hl]
    · iapply (slotPts_halve c 0 (shareLeft n) (W c)).2
      isplitl [Hl]; · iexact Hl
      iexact Hr
    · iexact Hs

/-! ## Closing the cells -/

/-- A device's cells, done with, close: their counters read zero again. -/
theorem bar_close : iprop(ctx W K ∗ atPos ER (barCell c) 1 ∅ 0) ⊢ |={Set.univ}=> (semVal (barCell c) 0 : sProp 𝕄) := by
  iintro ⟨#HC, Ha⟩
  iapply (Rounds.cell_close ER (rd W) (Set.mem_univ (K (c, none))) (fun h => h) (R := 1) (duties_later W (barCell c)))
  isplitr; · iapply (ctx_inv W K (c, none)); iexact HC
  iexact Ha

theorem own_close (j : Fin 15 ⊕ Fin 15) : iprop(ctx W K ∗ atPos ER (kcell (c, some j)) 1 ∅ 0) ⊢ |={Set.univ}=> (semVal (kcell (c, some j)) 0 : sProp 𝕄) := by
  iintro ⟨#HC, Ha⟩
  iapply (Rounds.cell_close ER (rd W) (Set.mem_univ (K (c, some j))) (fun h => h) (R := 1) (duties_later W (kcell (c, some j))))
  isplitr; · iapply (ctx_inv W K (c, some j)); iexact HC
  iexact Ha

/-- All send cells, and all receive cells, close. -/
theorem owns_close (g : Fin 15 → Fin 15 ⊕ Fin 15) : iprop(ctx W K ∗ bigSep Finset.univ fun k => atPos ER (kcell (c, some (g k))) 1 ∅ 0)
    ⊢ |={Set.univ}=> (bigSep Finset.univ fun k => semVal (kcell (c, some (g k))) 0 : sProp 𝕄) := by
  refine BIBase.Entails.trans ?_ (bigSep_fupd _ _)
  exact bigSep_with_persistent fun k _ => own_close W K c (g k)

/-! ## The text -/

/-- What the device starts from beside its staging buffers. -/
def startIn (f : (cc0_scratch0 : Ref sig .tc).ty.Contents (Elt F)) : sProp 𝕄 :=
  iprop(owing c (O₀ c)
    ∗ (bigSep Finset.univ fun k => dutyTok ER (barCell (aft c k)) 0 k.rev) ∗ sendToks c
    ∗ cred (tallyAt (barCell c) () 15) ∗ atPos ER (barCell c) 0 ∅ 0
    ∗ recvHold c ∗ (bigSep Finset.univ fun k => atPos ER (sendCell c k) 0 ∅ 0)
    ∗ stgPts c cc0_scratch0 f)

/-- What it ends with. -/
def endOut : sProp 𝕄 :=
  iprop(owing c 0 ∗ semVal (barCell c) 0 ∗ (bigSep Finset.univ fun k => semVal (sendCell c k) 0)
    ∗ (bigSep Finset.univ fun k => semVal (recvCell c k) 0) ∗ ∃ f, stgPts c cc0_scratch0 f)

/-- Where all landings are behind and no departure has been waited for. -/
def midway : sProp 𝕄 := iprop(ctx W K ∗ recvSt c 15 ∗ sent W c ∗ atPos ER (barCell c) 1 ∅ 0 ∗ bigSep Finset.univ fun k => atPos ER (sendCell c k) 0 ∅ 0)

/-- Beside the departures: the slots landed in, what is left of slot 0, the places of the other cells. -/
def aside : sProp 𝕄 :=
  iprop((bigSep Finset.univ fun i : Fin 15 => iprop((∃ f, slotPts c i.rev.succ fullShare f) ∗ atPos ER (recvCell c i.rev) 1 ∅ 0))
    ∗ slotPts c 0 (shareLeft 15) (W c) ∗ atPos ER (barCell c) 1 ∅ 0)

theorem midway_back : midway W K c ⊢ iprop(ctx W K ∗ backSt W c 0 ∗ aside W c) := by
  unfold midway aside recvSt sent backSt
  rw [geq_end, lth_end, geq_zero, lth_zero]
  iintro ⟨HC, ⟨HO, -, Hl⟩, ⟨Hs, Hcr⟩, Ha, Hp⟩
  isplitl [HC]; · iexact HC
  isplitl [HO Hcr Hp]
  · isplitl [HO]; · iexact HO
    isplitl [Hcr Hp]
    · rw [bigSep_sep']
      isplitl [Hcr] <;> iassumption
    rw [bigSep_empty]; iempintro
  isplitl [Hl]; · iexact Hl
  isplitl [Hs] <;> iassumption

omit [FloatOps F] in
/-- A family over the offsets, told backwards. -/
theorem revs (Φ : Fin 15 → sProp 𝕄) : (bigSep Finset.univ fun i : Fin 15 => Φ i.rev) = bigSep Finset.univ Φ :=
  (bigSep_univ_equiv Fin.revPerm Φ).symm

/-- The departures over, the cells close and the buffer is whole. -/
theorem back_end : iprop(ctx W K ∗ backSt W c 15 ∗ aside W c) ⊢ |={Set.univ}=> endOut c := by
  unfold backSt aside endOut
  rw [geq_end, lth_end, revs fun k => iprop((∃ f, slotPts c k.succ fullShare f) ∗ atPos ER (recvCell c k) 1 ∅ 0), bigSep_sep', bigSep_sep', bigSep_sep']
  iintro ⟨#HC, ⟨HO, -, Hsh, Hs⟩, ⟨Hl, Hr⟩, H0, Hb⟩
  imod (bar_close W K c) $$ [Hb] with Hb
  · isplitr; · iexact HC
    iexact Hb
  imod (owns_close W K c Sum.inl) $$ [Hs] with Hs
  · isplitr; · iexact HC
    iexact Hs
  imod (owns_close W K c Sum.inr) $$ [Hr] with Hr
  · isplitr; · iexact HC
    iexact Hr
  imodintro
  isplitl [HO]; · iexact HO
  isplitl [Hb]; · iexact Hb
  isplitl [Hs]; · iexact Hs
  isplitl [Hr]; · iexact Hr
  iapply (scratch_join c (W c))
  isplitl [H0 Hsh]
  · iexists (W c)
    iapply (share_join W c 15 le_rfl)
    rw [lth_end]
    isplitl [H0]; · iexact H0
    iexact Hsh
  iexact Hl

section Text

variable (X : Vec F S512x256 .f32) (I : Vec F S512x1 .i32) (E : Vec F S2x256x512 .f32)
variable (f₀ : (cc0_scratch0 : Ref sig .tc).ty.Contents (Elt F))

/-- The staged inputs the text reads. -/
def ins : sProp 𝕄 := iprop(stgPts c cc0_stg0_0 X ∗ stgPts c cc0_stg2_0 I ∗ stgPts c cc0_stg3_0 E)

theorem start_open (f) (R : sProp 𝕄) : iprop(ctx W K ∗ startIn c f ∗ ins c X I E ∗ R)
    ⊢ iprop(ctx W K ∗ sigSt c 0 ∗ stgPts c cc0_stg2_0 I ∗ stgPts c cc0_stg0_0 X ∗ stgPts c cc0_stg3_0 E
        ∗ (cred (tallyAt (barCell c) () 15) ∗ atPos ER (barCell c) 0 ∅ 0 ∗ sendToks c) ∗ slotPts c 0 fullShare f
        ∗ recvHold c ∗ (bigSep Finset.univ fun k => atPos ER (sendCell c k) 0 ∅ 0) ∗ R) := by
  unfold startIn ins sigSt
  rw [geq_zero]
  iintro ⟨HC, ⟨HO, Htb, Hts, Hc, Ha, Hr, Hp, Hf⟩, ⟨HX, HI, HE⟩, HR⟩
  ihave Hf' := (scratch_split c f) $$ Hf
  icases Hf' with ⟨H0, Hs⟩
  isplitl [HC]; · iexact HC
  isplitl [HO Htb Hs]
  · isplitl [HO]; · iexact HO
    isplitl [Htb]; · iexact Htb
    iexact Hs
  isplitl [HI]; · iexact HI
  isplitl [HX]; · iexact HX
  isplitl [HE]; · iexact HE
  isplitl [Hc Ha Hts]
  · isplitl [Hc]; · iexact Hc
    isplitl [Ha] <;> iassumption
  isplitl [H0]; · iexact H0
  isplitl [Hr]; · iexact Hr
  isplitl [Hp] <;> iassumption

/-- The signals and the barrier's part brought back to the front, beside the place the block is written to. -/
theorem before_store (A B C X E H S R : sProp 𝕄) : iprop(A ∗ B ∗ C ∗ X ∗ E ∗ H ∗ S ∗ R) ⊢ iprop(X ∗ E ∗ S ∗ A ∗ B ∗ H ∗ C ∗ R) := by
  iintro ⟨HA, HB, HC, HX, HE, HH, HS, HR⟩
  isplitl [HX]; · iexact HX
  isplitl [HE]; · iexact HE
  isplitl [HS]; · iexact HS
  isplitl [HA]; · iexact HA
  isplitl [HB]; · iexact HB
  isplitl [HH]; · iexact HH
  isplitl [HC] <;> iassumption

/-- The two inputs read are put behind. -/
theorem after_read (X E S A B H C R : sProp 𝕄) : iprop(X ∗ E ∗ S ∗ A ∗ B ∗ H ∗ C ∗ R) ⊢ iprop(S ∗ A ∗ B ∗ H ∗ X ∗ E ∗ C ∗ R) := by
  iintro ⟨HX, HE, HS, HA, HB, HH, HC, HR⟩
  isplitl [HS]; · iexact HS
  isplitl [HA]; · iexact HA
  isplitl [HB]; · iexact HB
  isplitl [HH]; · iexact HH
  isplitl [HX]; · iexact HX
  isplitl [HE]; · iexact HE
  isplitl [HC] <;> iassumption

/-- What the landings need is brought forward. -/
theorem before_land (A S P X E C V R : sProp 𝕄) : iprop(A ∗ S ∗ P ∗ X ∗ E ∗ C ∗ V ∗ R) ⊢ iprop(A ∗ S ∗ V ∗ P ∗ X ∗ E ∗ C ∗ R) := by
  iintro ⟨HA, HS, HP, HX, HE, HC, HV, HR⟩
  isplitl [HA]; · iexact HA
  isplitl [HS]; · iexact HS
  isplitl [HV]; · iexact HV
  isplitl [HP]; · iexact HP
  isplitl [HX]; · iexact HX
  isplitl [HE]; · iexact HE
  isplitl [HC] <;> iassumption

theorem midway_intro (R : sProp 𝕄) :
    iprop(ctx W K ∗ recvSt c 15 ∗ sent W c ∗ atPos ER (barCell c) 1 ∅ 0 ∗ stgPts c cc0_stg0_0 X ∗ stgPts c cc0_stg3_0 E
        ∗ stgPts c cc0_stg2_0 I ∗ (bigSep Finset.univ fun k => atPos ER (sendCell c k) 0 ∅ 0) ∗ R)
      ⊢ iprop(ctx W K ∗ backSt W c 0 ∗ aside W c ∗ ins c X I E ∗ R) := by
  unfold ins
  iintro ⟨HC, Hr, Hs, Ha, HX, HE, HI, Hp, HR⟩
  ihave H := (midway_back W K c) $$ [HC Hr Hs Ha Hp]
  · unfold midway
    isplitl [HC]; · iexact HC
    isplitl [Hr]; · iexact Hr
    isplitl [Hs]; · iexact Hs
    isplitl [Ha] <;> iassumption
  icases H with ⟨HC, Hb, Has⟩
  isplitl [HC]; · iexact HC
  isplitl [Hb]; · iexact Hb
  isplitl [Has]; · iexact Has
  isplitr [HR]
  · isplitl [HX]; · iexact HX
    isplitl [HI] <;> iassumption
  · iexact HR

/-- At the text's end the cells close. -/
theorem back_run {α : Type} {Q : α → sProp 𝕄} (R : sProp 𝕄) {p : Prog (TpuEff nD τ sig (Elt F) Λ₀ .tc) α} (h : iprop(endOut c ∗ R) ⊢ run c p Q) :
    iprop(ctx W K ∗ backSt W c 15 ∗ aside W c ∗ R) ⊢ run c p Q := by
  refine BIBase.Entails.trans (Q := iprop(|={Set.univ}=> (endOut c ∗ R))) ?_ ((fupd_mono h).trans (fupd_wp _ _ _ _ _))
  iintro ⟨HC, Hb, Has, HR⟩
  imod (back_end W K c) $$ [HC Hb Has] with He
  · isplitl [HC]; · iexact HC
    isplitl [Hb] <;> iassumption
  imodintro
  isplitl [He] <;> iassumption

set_option maxHeartbeats 1600000 in
/-- The text up to its last store computes the result from the sixteen blocks. -/
theorem part28_run {α : Type} {Q : α → sProp 𝕄} (R : sProp 𝕄) (f) (hW : W c = stored c X I E f₀) {k}
    (h : iprop(endOut c ∗ ins c X I E ∗ R) ⊢ run c (k (outOf (slots (fun d => blk W d) c))) Q) :
    iprop(ctx W K ∗ startIn c f ∗ ins c X I E ∗ R) ⊢ run c (here (k0_part28 (F := F)) >>= k) Q := by
  refine BIBase.Entails.trans (start_open W K c X I E f R) ?_
  rw [k0_part28_eq_skeleton]; unfold k0_part28_skel here
  simp only [bind_assoc]
  refine part1_run W K c _ fun u v => ?_
  refine part2_run W K c _ fun r2 => ?_
  refine part3_run W K c _ I ?_
  refine BIBase.Entails.trans (before_store _ _ _ _ _ _ _ _) ?_
  refine part4_run c _ X I E ?_
  refine BIBase.Entails.trans (after_read _ _ _ _ _ _ _ _) ?_
  refine part5_run W K c _ X I E f f₀ hW fun r5 => ?_
  refine part6_run W K c _ fun r6 => ?_
  refine part7_run W K c _ fun r7 => ?_
  refine part8_run W K c _ fun r8 => ?_
  refine part9_run W K c _ fun r9 => ?_
  refine part10_run W K c _ fun r10 => ?_
  refine part11_run W K c _ fun r11 => ?_
  refine BIBase.Entails.trans (before_land _ _ _ _ _ _ _ _) ?_
  refine part12_run W K c _ ?_
  dsimp only
  refine part13_run W K c _ ?_
  dsimp only
  refine part14_run W K c _ ?_
  dsimp only
  refine part15_run W K c _ ?_
  dsimp only
  refine part16_run W K c _ ?_
  dsimp only
  refine part17_run W K c _ ?_
  dsimp only
  refine part18_run W K c _ ?_
  dsimp only
  refine part19_run W K c _ ?_
  dsimp only
  refine part20_run W K c _ ?_
  dsimp only
  refine part21_run W K c _ ?_
  dsimp only
  refine part22_run W K c _ ?_
  dsimp only
  refine part23_run W K c _ ?_
  refine BIBase.Entails.trans (midway_intro W K c X I E R) ?_
  dsimp only
  refine part24_run W K c _ ?_
  refine part25_run W K c _ ?_
  refine part26_run W K c _ ?_
  refine part27_run W K c _ ?_
  simp only [Prog.lift, Prog.bind_op, Prog.bind_ret, Prog.pure_eq_ret]
  refine back_step W K c _ 13 ?_
  refine back_step W K c _ 14 ?_
  refine back_run W K c _ ?_
  exact h

end Text

end Cert.KernelIdealProof

end
-- ==== Proof.IdealDat.lean ====
/-
# The kernel on one device as the launch sees it

The inputs as staged, the sixteen blocks they make, the result; what the device holds before the text and after it; and
that the text leads from the one to the other.
-/
module

public import proofs.«01_k».proof.Proof.IdealBody

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The staged inputs: tokens, router weights, expert numbers, expert weights. -/
def xIn (c : Dev nD) : (cc0_stg0_0 : Ref sig .tc).ty.Contents (Elt F) :=
  (win0_0.blk (0 : Fin 1)).view.read (Elt F) ((s₀ m ρ).mem ((c : Thread nD τ).loc main_arg0))
def rIn (c : Dev nD) : (cc0_stg1_0 : Ref sig .tc).ty.Contents (Elt F) :=
  (win0_1.blk (0 : Fin 1)).view.read (Elt F) ((s₀ m ρ).mem ((c : Thread nD τ).loc main_arg1))
def iIn (c : Dev nD) : (cc0_stg2_0 : Ref sig .tc).ty.Contents (Elt F) :=
  (win0_2.blk (0 : Fin 1)).view.read (Elt F) ((s₀ m ρ).mem ((c : Thread nD τ).loc main_arg2))
def wIn (c : Dev nD) : (cc0_stg3_0 : Ref sig .tc).ty.Contents (Elt F) :=
  (win0_3.blk (0 : Fin 1)).view.read (Elt F) ((s₀ m ρ).mem ((c : Thread nD τ).loc main_arg3))

/-- The buffer of device `c` with its own block stored in slot 0, the rest as at launch. -/
def own (c : Dev nD) : (cc0_scratch0 : Ref sig .tc).ty.Contents (Elt F) :=
  stored c (xIn m ρ c) (iIn m ρ c) (wIn m ρ c) (m ((c : Thread nD τ).loc cc0_scratch0))

/-- The result on device `c`. -/
def outAt (c : Dev nD) : (cc0_stg4_0 : Ref sig .tc).ty.Contents (Elt F) := outOf (slots (fun d => blk (own m ρ) d) c)

/-! ## Before and after -/

/-- The exchange's tokens, credits and places that device `c` starts from. -/
def hold (c : Dev nD) : sProp 𝕄 :=
  iprop((bigSep Finset.univ fun k => dutyTok ER (barCell (aft c k)) 0 k.rev) ∗ sendToks c
    ∗ cred (tallyAt (barCell c) () 15) ∗ atPos ER (barCell c) 0 ∅ 0
    ∗ recvHold c ∗ bigSep Finset.univ fun k => atPos ER (sendCell c k) 0 ∅ 0)

/-- What device `c` starts from: the cells' invariants at some names, and the above. -/
def start (c : Dev nD) : sProp 𝕄 := iprop((∃ K, ctx (own m ρ) K) ∗ hold c)
def Φ₀ (c : Dev nD) : sProp 𝕄 := iprop(start m ρ c ∗ ∃ f, stgPts c cc0_scratch0 f)
/-- After: every cell closed, the buffer whole. -/
def Φ₁ (c : Dev nD) : sProp 𝕄 :=
  iprop(semVal (barCell c) 0 ∗ (bigSep Finset.univ fun k => semVal (sendCell c k) 0)
    ∗ (bigSep Finset.univ fun k => semVal (recvCell c k) 0) ∗ ∃ f, stgPts c cc0_scratch0 f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => rIn m ρ c
    | ⟨2, _⟩ => iIn m ρ c
    | ⟨3, _⟩ => wIn m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer at contents equal to `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

omit [FloatOps F] in
theorem stg_eq (c : Dev nD) (b : Ref sig .tc) (X : b.ty.Contents (Elt F)) : (stg c b X : sProp 𝕄) ⊢ stgPts c b X := by
  unfold stgPts
  iintro ⟨%f, %hf, H⟩
  subst hf
  iexact H
omit [FloatOps F] in
theorem stg_intro (c : Dev nD) (b : Ref sig .tc) (X : b.ty.Contents (Elt F)) : (stgPts c b X : sProp 𝕄) ⊢ stg c b X := by
  unfold stgPts
  iintro H
  iexists X
  isplitr; · (ipureintro; rfl)
  iexact H

/-! ## The text -/

section Body

variable (c : Dev nD)

/-- The place of the result in its buffer: all of it. -/
abbrev oR : Rect S512x512 := Rect.unit (s := S512x512) ![0, 0] S512x512.size inb_S512x512_S512x512_0_0

/-- The whole text: part by part to the result, then its store. -/
theorem body_run (W : Dev nD → (cc0_scratch0 : Ref sig .tc).ty.Contents (Elt F)) (K : Dev nD × Option (Fin 15 ⊕ Fin 15) → ℕ)
    (X : Vec F S512x256 .f32) (I : Vec F S512x1 .i32) (E : Vec F S2x256x512 .f32) (f₀ f) (g : (cc0_stg4_0 : Ref sig .tc).ty.Contents (Elt F))
    (hW : W c = stored c X I E f₀) (R : sProp 𝕄) {Q : PUnit → sProp 𝕄}
    (h : iprop(endOut c ∗ ins c X I E ∗ stgPts c cc0_stg4_0 (outOf (slots (fun d => blk W d) c)) ∗ R) ⊢ Q ⟨⟩) :
    iprop(ctx W K ∗ startIn c f ∗ ins c X I E ∗ stgPts c cc0_stg4_0 g ∗ R) ⊢ run c (here (cc0_body (F := F))) Q := by
  rw [cc0_body_eq_skeleton]; unfold cc0_body_skel
  refine part28_run W K c X I E f₀ _ f hW ?_
  have hz : (![0, 0] : Fin 2 → ℕ) = fun _ => 0 := funext fun a => by fin_cases a <;> rfl
  have hw : ∀ f w : (cc0_stg4_0 : Ref sig .tc).ty.Contents (Elt F),
      ((oM : Memref sig .tc .vmem S512x512 .f32).access oR : View sig .tc _ _ _).write (Elt F) f w Finset.univ = w :=
    fun f w => Memref.write_access_unit_zero_univ (Elt F) cc0_stg4_0 hz _ f w
  unfold run stgPts at *
  simp only [Prog.lift, Prog.bind_op, Prog.bind_ret, Prog.pure_eq_ret]
  iintro ⟨He, Hi, Ho, HR⟩
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [hw, wp_ret]; imodintro
  iapply h
  isplitl [He]; · iexact He
  isplitl [Hi]; · iexact Hi
  isplitl [Ho] <;> iassumption

/-- What the launch hands the text, and takes back. -/
def bodyPre : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))
def bodyPost : sProp 𝕄 :=
  iprop(Φ₁ c ∗ (dats m ρ 0 c).owesAt () t0_0.succ
    ∗ stg c cc0_stg0_0 (xIn m ρ c) ∗ stg c cc0_stg1_0 (rIn m ρ c) ∗ stg c cc0_stg2_0 (iIn m ρ c) ∗ stg c cc0_stg3_0 (wIn m ρ c)
    ∗ stg c cc0_stg4_0 (outAt m ρ c))

theorem before_0 (d) : (dats m ρ 0 c).before (0 : Fin 5) t0_0 d = xIn m ρ c := by unfold Dat.before; rw [if_pos (fetch0_0 t0_0)]; rfl
theorem before_1 (d) : (dats m ρ 0 c).before (1 : Fin 5) t0_0 d = rIn m ρ c := by unfold Dat.before; rw [if_pos (fetch0_1 t0_0)]; rfl
theorem before_2 (d) : (dats m ρ 0 c).before (2 : Fin 5) t0_0 d = iIn m ρ c := by unfold Dat.before; rw [if_pos (fetch0_2 t0_0)]; rfl
theorem before_3 (d) : (dats m ρ 0 c).before (3 : Fin 5) t0_0 d = wIn m ρ c := by unfold Dat.before; rw [if_pos (fetch0_3 t0_0)]; rfl

/-- What comes from the launch, as the text takes it. -/
theorem pre_open : bodyPre m ρ c ⊢ iprop(∃ K f g, ctx (own m ρ) K ∗ startIn c f ∗ ins c (xIn m ρ c) (iIn m ρ c) (wIn m ρ c)
    ∗ stgPts c cc0_stg4_0 g ∗ stgPts c cc0_stg1_0 (rIn m ρ c)) := by
  unfold bodyPre Φ₀ start hold startIn ins Dat.owesAt Pipeline.owesWithin owing
  simp only [before_0, before_1, before_2, before_3]
  rw [show (dats m ρ 0 c).owed t0_0.castSucc = O₀ c from rfl]
  iintro ⟨⟨⟨⟨%K, HC⟩, Hb, Ht, Hc, Ha, Hr, Hp⟩, ⟨%f, Hf⟩⟩, ⟨%Wt, %hWt, HO⟩, ⟨%d0, H0⟩, ⟨%d1, H1⟩, ⟨%d2, H2⟩, ⟨%d3, H3⟩, ⟨%d4, H4⟩⟩
  iexists K, f, _
  isplitl [HC]; · iexact HC
  isplitl [HO Hb Ht Hc Ha Hr Hp Hf]
  · isplitl [HO]; · iexists _; iexact HO
    isplitl [Hb]; · iexact Hb
    isplitl [Ht]; · iexact Ht
    isplitl [Hc]; · iexact Hc
    isplitl [Ha]; · iexact Ha
    isplitl [Hr]; · iexact Hr
    isplitl [Hp] <;> iassumption
  isplitl [H0 H2 H3]
  · isplitl [H0]; · iapply (stg_eq c cc0_stg0_0 _); iexact H0
    isplitl [H2]; · iapply (stg_eq c cc0_stg2_0 _); iexact H2
    iapply (stg_eq c cc0_stg3_0 _); iexact H3
  isplitl [H4]; · iapply (stg_eq c cc0_stg4_0 _); iexact H4
  iapply (stg_eq c cc0_stg1_0 _); iexact H1

/-- What the text leaves, as the launch takes it back. -/
theorem post_close : iprop(endOut c ∗ ins c (xIn m ρ c) (iIn m ρ c) (wIn m ρ c) ∗ stgPts c cc0_stg4_0 (outAt m ρ c) ∗ stgPts c cc0_stg1_0 (rIn m ρ c))
    ⊢ bodyPost m ρ c := by
  unfold bodyPost endOut Φ₁ ins Dat.owesAt Pipeline.owesWithin owing
  rw [show (dats m ρ 0 c).owed t0_0.succ = 0 from rfl]
  iintro ⟨⟨⟨%Wt, HO⟩, Hb, Hs, Hr, Hf⟩, ⟨H0, H2, H3⟩, H4, H1⟩
  isplitl [Hb Hs Hr Hf]
  · isplitl [Hb]; · iexact Hb
    isplitl [Hs]; · iexact Hs
    isplitl [Hr] <;> iassumption
  isplitl [HO]
  · iexists Wt
    isplitr; · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  iapply (stg_intro c cc0_stg4_0 _); iexact H4

/-- The text meets what the launch asks of it. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (here (cc0_body (F := F))) (fun _ => bodyPost m ρ c)
  refine BIBase.Entails.trans (pre_open m ρ c) ?_
  iintro ⟨%K, %f, %g, H⟩
  iapply (body_run c (own m ρ) K _ _ _ (m ((c : Thread nD τ).loc cc0_scratch0)) f g rfl _ (post_close m ρ c))
  iexact H

end Body

end Cert.KernelIdealProof

end
-- ==== Proof.IdealLaunch.lean ====
/-
# The launch: the exchange's tokens dealt, the run, the memory after it
-/
module

public import proofs.«01_k».proof.Proof.IdealDat
public import Idealize.ShloMosaic.Lib.Pipeline.CollectiveSegs

@[expose] public section

set_option maxRecDepth 20000

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)
variable (W : Dev nD → (cc0_scratch0 : Ref sig .tc).ty.Contents (Elt F))

/-! ## The semaphores -/

theorem ownSemFacts : Pipeline.OwnSemFacts cfg0.spec osem where
  isScoped := by decide
  inj := osem_injective
  disj := by decide

omit [FloatOps F] in
/-- A family over the exchange's semaphores: the barrier's member, the sends', the receives'. -/
theorem bigSep_cells (Φ : Option (Fin 15 ⊕ Fin 15) → sProp 𝕄) :
    bigSep Finset.univ Φ = iprop(Φ none ∗ (bigSep Finset.univ fun k => Φ (some (.inl k))) ∗ bigSep Finset.univ fun k => Φ (some (.inr k))) := by
  rw [bigSep_univ_at Φ none, show (Finset.univ : Finset (Option (Fin 15 ⊕ Fin 15))).erase none = Finset.univ.map Function.Embedding.some from by
    ext x; cases x <;> simp, bigSep_map, bigSep_univ_sum]
  rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All counters of a device's exchange, at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, bigSep_cells]
  iintro ⟨⟨HS, HV⟩, HB⟩
  isplitl [HB]; · iexact HB
  isplitl [HS] <;> iassumption

/-! ## The tokens -/

def ringCells : Finset (GSem nD τ sig) := Finset.univ.map ⟨kcell, kcell_injective⟩

/-- The duties of a device's cells: a barrier's fifteen, one of each other cell. -/
abbrev tokOf (cj : Dev nD × (Fin 15 ⊕ (Fin 15 ⊕ Fin 15))) : GSem nD τ sig × ℕ × Fin 15 := match cj.2 with
  | .inl k => (kcell (cj.1, none), 0, k) | .inr j => (kcell (cj.1, some j), 0, 0)
theorem tokOf_injective : Function.Injective tokOf := by
  rintro ⟨c, k | j⟩ ⟨c', k' | j'⟩ h
  · have h1 : c = c' := congrArg Prod.fst (kcell_injective (congrArg Prod.fst h))
    have h2 : k = k' := congrArg (fun x : GSem nD τ sig × ℕ × Fin 15 => x.2.2) h
    rw [h1, h2]
  · have h1 := kcell_injective (congrArg Prod.fst h)
    cases congrArg Prod.snd h1
  · have h1 := kcell_injective (congrArg Prod.fst h)
    cases congrArg Prod.snd h1
  · have h1 : c = c' := congrArg Prod.fst (kcell_injective (congrArg Prod.fst h))
    have h2 : j = j' := Option.some.inj (congrArg Prod.snd (kcell_injective (congrArg Prod.fst h)))
    rw [h1, h2]
def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bigSep Finset.univ fun k => dutyTok ER (barCell c) 0 k) ∗ (bigSep Finset.univ fun k => dutyTok ER (sendCell c k) 0 0)
    ∗ bigSep Finset.univ fun k => dutyTok ER (recvCell c k) 0 0)

/-- The tokens device `c` pays with. -/
def payToks (c : Dev nD) : sProp 𝕄 := iprop((bigSep Finset.univ fun k => dutyTok ER (barCell (aft c k)) 0 k.rev) ∗ sendToks c)

omit [FloatOps F] in
/-- Dealt around, every token reaches the device that pays with it. -/
theorem toks_around : (bigSep Finset.univ fun c : Dev nD => (toks c : sProp 𝕄)) ⊢ bigSep Finset.univ fun c : Dev nD => payToks c := by
  have hb : (bigSep Finset.univ fun c : Dev nD => bigSep Finset.univ fun k : Fin 15 => (dutyTok ER (barCell c) 0 k : sProp 𝕄))
      = bigSep Finset.univ fun c : Dev nD => bigSep Finset.univ fun k : Fin 15 => dutyTok ER (barCell (aft c k)) 0 k.rev := by
    rw [← bigSep_univ_prod fun x : Dev nD × Fin 15 => (dutyTok ER (barCell x.1) 0 x.2 : sProp 𝕄), bigSep_univ_equiv swap, bigSep_univ_prod]; rfl
  have hr : (bigSep Finset.univ fun c : Dev nD => bigSep Finset.univ fun k : Fin 15 => (dutyTok ER (recvCell c k) 0 0 : sProp 𝕄))
      = bigSep Finset.univ fun c : Dev nD => bigSep Finset.univ fun k : Fin 15 => dutyTok ER (recvCell (aft c k) k.rev) 0 0 := by
    rw [← bigSep_univ_prod fun x : Dev nD × Fin 15 => (dutyTok ER (recvCell x.1 x.2) 0 0 : sProp 𝕄), bigSep_univ_equiv swap, bigSep_univ_prod]; rfl
  unfold toks payToks sendToks
  simp only [bigSep_sep']
  rw [hb, hr]

/-- What the launch deals device `c`. -/
def G (c : Dev nD) : sProp 𝕄 :=
  iprop((bigSep Finset.univ fun k => roundState ER (rd W) (kcell (c, k)) 0)
    ∗ (bigSep Finset.univ fun k => iprop(atPos ER (kcell (c, k)) 0 ∅ 0 ∗ reached ER (kcell (c, k)) 0)) ∗ toks c)

/-- What names and marks every device shares. -/
def records (K : Dev nD × Option (Fin 15 ⊕ Fin 15) → ℕ) : sProp 𝕄 :=
  iprop((bigSep Finset.univ fun x => cellInv ER (rd W) (K x) (kcell x)) ∗ bigSep Finset.univ fun x => reached ER (kcell x) 0)
instance records_persistent (K : Dev nD × Option (Fin 15 ⊕ Fin 15) → ℕ) : BI.Persistent (records W K) := by unfold records; infer_instance

/-- What stays with device `c`. -/
def linear (c : Dev nD) : sProp 𝕄 := iprop((bigSep Finset.univ fun k => atPos ER (kcell (c, k)) 0 ∅ 0) ∗ payToks c)

/-- What the step before the run makes of it. -/
def G' (c : Dev nD) : sProp 𝕄 := iprop(∃ K, records W K ∗ linear c)

omit [FloatOps F] in
theorem fund_ring : BI.own (ER (initOf ringCells ringToks)) ⊢ (|==> bigSep Finset.univ (G W) : sProp 𝕄) := by
  have hX (Φ : GSem nD τ sig → sProp 𝕄) : bigSep ringCells Φ = bigSep Finset.univ fun c : Dev nD => bigSep Finset.univ fun k => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd W) ringCells ringToks) $$ HX with ⟨Hst, Hr, Hat, Htok⟩
  imodintro
  ihave Hst' := (Entails.of_eq (hX fun g => roundState ER (rd W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G W c)
      ⊢ |={Set.univ}=> iprop((bigSep Finset.univ fun k => iprop(∃ κ : ℕ, cellInv ER (rd W) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (rd W) (kcell (c, k)) 0)
      ⊢ (|={Set.univ}=> bigSep Finset.univ fun k => iprop(∃ κ : ℕ, cellInv ER (rd W) κ (kcell (c, k))) : sProp 𝕄) from by
        rw [← bigSep_sep']
        exact (bigSep_mono fun k _ => (Rounds.body_intro ER (rd W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem regroup :
    (bigSep Finset.univ fun c : Dev nD => iprop((bigSep Finset.univ fun k => iprop(∃ κ : ℕ, cellInv ER (rd W) κ (kcell (c, k))))
          ∗ (bigSep Finset.univ fun k => iprop(atPos ER (kcell (c, k)) 0 ∅ 0 ∗ reached ER (kcell (c, k)) 0)) ∗ toks c) : sProp 𝕄)
      ⊢ bigSep Finset.univ (G' W) := by
  simp only [bigSep_sep']
  rw [← bigSep_univ_prod (fun x : Dev nD × Option (Fin 15 ⊕ Fin 15) => iprop(∃ κ : ℕ, cellInv ER (rd W) κ (kcell x))),
    ← bigSep_univ_prod (fun x : Dev nD × Option (Fin 15 ⊕ Fin 15) => (reached ER (kcell x) 0 : sProp 𝕄))]
  iintro ⟨HI, ⟨Hat, #HR⟩, Htok⟩
  ihave HK := (BI.bigSep_exists_pi Finset.univ (fun (x : Dev nD × Option (Fin 15 ⊕ Fin 15)) (κ : ℕ) => (cellInv ER (rd W) κ (kcell x) : sProp 𝕄))) $$ HI
  icases HK with ⟨%K, #HI⟩
  ihave Htk := (toks_around (F := F)) $$ Htok
  iapply (bigSep_with_persistent (R := records W K) fun c _ => show iprop(records W K ∗ linear c) ⊢ G' W c from exists_intro (Φ := fun K => iprop(records W K ∗ linear c)) K)
  isplitr
  · unfold records; isplitl; · iexact HI
    iexact HR
  · unfold linear
    rw [bigSep_sep']
    isplitl [Hat] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G W c) : sProp 𝕄)
    ⊢ |={Set.univ}=> bigSep Finset.univ (G' W) :=
  ((bigSep_mono fun c _ => core_alloc W c).trans (bigSep_fupd _ _)).trans (BI.fupd_mono (regroup W))

/-! ## The credits -/

/-- What the devices owe a cell together: counted by who is charged instead of by who pays. -/
theorem owed_total (f : Dev nD × Fin 15 → GSem nD τ sig) (n : ℕ) (g : GSem nD τ sig) :
    (∑ d : Dev nD, (∑ k ∈ geq 0, (tallyAt (f (swap (d, k))) () n : CellTallies nD τ sig Unit)) g ()) = ∑ x : Dev nD × Fin 15, if g = f x then n else 0 := by
  rw [geq_zero, ← Equiv.sum_comp swap, Fintype.sum_prod_type]
  refine Finset.sum_congr rfl fun d _ => ?_
  rw [Finset.sum_apply, Finsupp.finset_sum_apply]
  refine Finset.sum_congr rfl fun k _ => ?_
  rw [tallyAt_apply]
  simp only [and_true]

theorem launch_total (g : GSem nD τ sig) : launchCredit (Pipeline.owing O₀) 0 g ()
    = (∑ x : Dev nD × Fin 15, if g = recvCell x.1 x.2 then N else 0) + ∑ x : Dev nD × Fin 15, if g = barCell x.1 then 1 else 0 := by
  rw [Pipeline.launchCredit_owing, ← owed_total (fun x => recvCell x.1 x.2) N g, ← owed_total (fun x => barCell x.1) 1 g, ← Finset.sum_add_distrib]
  refine Finset.sum_congr rfl fun d _ => ?_
  unfold O₀ owedRecv owedBar
  rw [Pi.add_apply, Finsupp.add_apply]
  rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [launch_total, Finsupp.single_eq_same, Finset.sum_eq_zero fun x _ => if_neg fun h => dma_ne_bar _ (congrArg Prod.snd h).symm, Nat.zero_add,
    Fintype.sum_prod_type, Fintype.sum_eq_single c fun d hd => Finset.sum_eq_zero fun k _ => if_neg fun h => hd (congrArg (fun g : GSem nD τ sig => g.1.1) h).symm]
  simp

theorem launch_recv (c : Dev nD) (j : Fin 15) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [launch_total, Finsupp.single_eq_same, Finset.sum_eq_zero (f := fun x : Dev nD × Fin 15 => if recvCell c j = barCell x.1 then 1 else 0) fun x _ => if_neg fun h => dma_ne_bar _ (congrArg Prod.snd h), Nat.add_zero,
    Fintype.sum_eq_single (c, j) fun x hx => if_neg fun h => hx (Prod.ext (congrArg (fun g : GSem nD τ sig => g.1.1) h).symm
      (Sum.inr.inj (osem_injective (a₁ := .inr x.2) (a₂ := .inr j) (congrArg Prod.snd h).symm))), if_pos rfl]

omit [FloatOps F] in
/-- The credits a device starts with: its barrier's fifteen, a copy's for each receive cell. -/
theorem creds (c : Dev nD) :
    (Pipeline.launchCred O₀ c : sProp 𝕄) ⊢ iprop(cred (tallyAt (barCell c) () 15) ∗ bigSep Finset.univ fun j => cred (tallyAt (recvCell c j) () N)) := by
  unfold Pipeline.launchCred
  rw [bigSep_univ_at _ (SemLoc.reg barS), launch_bar]
  refine sep_mono_right ?_
  have hr : Function.Injective fun j : Fin 15 => (SemLoc.dma (recvS j) : SemLoc sig) := fun a b h => Sum.inr.inj (osem_injective (a₁ := .inr a) (a₂ := .inr b) h)
  refine BIBase.Entails.trans (bigSep_subset (t := Finset.univ.map ⟨_, hr⟩) fun x hx => ?_) ?_
  · obtain ⟨j, -, rfl⟩ := Finset.mem_map.mp hx
    exact Finset.mem_erase.mpr ⟨dma_ne_bar _, Finset.mem_univ _⟩
  · rw [bigSep_map]
    exact bigSep_mono fun j _ => show cred (tallyOn (recvCell c j) (launchCredit (Pipeline.owing O₀) 0 (recvCell c j))) ⊢ cred (tallyAt (recvCell c j) () N) from
      Entails.of_eq (congrArg cred (launch_recv c j))

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (own m ρ) c)
      ⊢ |={Set.univ}=> iprop(start m ρ c ∗ emp) := by
  iintro ⟨-, Hlev, Hcr, -, HG⟩
  ihave Hc := (creds (F := F) c) $$ Hcr
  unfold start G' records linear payToks hold ctx lev recvHold
  icases Hc with ⟨H1, HN⟩
  icases HG with ⟨%K, ⟨HI, HR⟩, Hat, Htb, Hts⟩
  ihave Hat' := (Entails.of_eq (bigSep_cells fun k => atPos ER (kcell (c, k)) 0 ∅ 0)) $$ Hat
  icases Hat' with ⟨Hb, Hs, Hr⟩
  imodintro
  isplitl
  · isplitl [HI HR Hlev]
    · iexists K
      isplitl [HI]; · iexact HI
      isplitl [HR] <;> iassumption
    isplitl [Htb]; · iexact Htb
    isplitl [Hts]; · iexact Hts
    isplitl [H1]; · iexact H1
    isplitl [Hb]; · iexact Hb
    isplitl [HN Hr]
    · rw [revs fun k => iprop(cred (tallyAt (recvCell c k) () N) ∗ atPos ER (recvCell c k) 0 ∅ 0), bigSep_sep']
      isplitl [HN] <;> iassumption
    iexact Hs
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ stgPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ stgPts
  iintro ⟨HB, HS, HV, Hr⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, on the sixteen devices, every weakly fair execution terminates, every array holds
    what was computed for it, and every counter reads zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (own m ρ)) (G' := G' (own m ρ)) (u₀ := u₀)
    (hu₀ := by
      unfold u₀
      iintro Hu
      ihave H := (ownU_pair _ _) $$ Hu
      icases H with ⟨HP, HX⟩
      imod (fund_ring (own m ρ)) $$ HX with HG
      imodintro
      isplitl [HP] <;> iassumption)
    (hglob := glob (own m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold what they held. -/
theorem finalA_in (c : Dev nD) (w : Fin 5) (hw : w.val < 4) : finalA m ρ c w = (s₀ m ρ).mem ((cfg0.win w).arr.view.loc (c : Thread nD τ)) :=
  (dats (F := F) m ρ 0 c).arrAt_in w (by fin_cases w <;> first | rfl | exact absurd hw (by decide)) _

end Cert.KernelIdealProof

end
-- ==== Proof.Frames.lean ====
/-
# The arguments are unchanged

Both kernel programs and the reference end with their argument arrays as they were and every counter at zero. The two
kernels' is read off what each launch leaves; the reference's off its run.
-/
module

public import proofs.«01_k».proof.Defs
public import proofs.«01_k».proof.Proof.KernelLaunch
public import proofs.«01_k».proof.Proof.IdealLaunch
public import proofs.«01_k».proof.Proof.Gen.ReferenceIdeal.Run
public import Idealize.ShloMosaic.Lib.Bf16Pair

@[expose] public section

noncomputable section

namespace Cert.Proof

open Idealize.ShloMosaic Idealize.SL.Sem

/-- The kernel's arguments end as they began, its counters at zero. -/
theorem frame_kernel : quiescent_Kernel := fun m ρ _ =>
  (θ_run _ _ _).mono (fun _ h => ⟨fun c =>
    ⟨(h.1 c 0).trans (Cert.KernelProof.finalA_in m ρ c 0 (by decide)), (h.1 c 1).trans (Cert.KernelProof.finalA_in m ρ c 1 (by decide)),
      (h.1 c 2).trans (Cert.KernelProof.finalA_in m ρ c 2 (by decide)), (h.1 c 3).trans (Cert.KernelProof.finalA_in m ρ c 3 (by decide))⟩, h.2⟩)
    (Cert.KernelProof.run_main m ρ)

/-- So do those of its reading at the extended reals. -/
theorem frame_ideal : quiescent_KernelIdeal := fun m ρ _ =>
  (θ_run _ _ _).mono (fun _ h => ⟨fun c =>
    ⟨(h.1 c 0).trans (Cert.KernelIdealProof.finalA_in m ρ c 0 (by decide)), (h.1 c 1).trans (Cert.KernelIdealProof.finalA_in m ρ c 1 (by decide)),
      (h.1 c 2).trans (Cert.KernelIdealProof.finalA_in m ρ c 2 (by decide)), (h.1 c 3).trans (Cert.KernelIdealProof.finalA_in m ρ c 3 (by decide))⟩, h.2⟩)
    (Cert.KernelIdealProof.run_main m ρ)

/-- And the reference's, which has no counters. -/
theorem frame_reference : quiescent_ReferenceIdeal := fun m ρ _ =>
  (θ_run _ _ _).mono (fun _ h => ⟨fun c => (h c).2, funext fun s => nomatch s⟩) (Cert.ReferenceIdeal.Value.run m ρ)

/-- The words the kernel packs are, in its reading at the extended reals, the pairs of halves they carry. -/
theorem words_kept : preserves_Kernel_KernelIdeal :=
  ⟨IdealRules.bf16_pair.halfStatement _, IdealRules.bf16_pair.statement _ _, IdealRules.bf16_pair.halfStatement _,
    IdealRules.bf16_pair.statement _ _, IdealRules.bf16_pair.statement _ _, IdealRules.bf16_pair.halfStatement _⟩

end Cert.Proof

end
-- ==== Proof.Counting.lean ====
/-
# Counting tokens

Tokens stand in a row and each names an expert.  `cnt k e t` is how many of the tokens up to and including `t` name `e`.
A token that names `e` is the only one with its count, so a count names a token: this is what places tokens in rows.
-/
module

public import Idealize.ShloMosaic.Lib.Pointwise

@[expose] public section

noncomputable section

namespace Cert.Counting

variable (k : Fin 512 → BitVec 32) (e : BitVec 32)

/-- How many tokens up to and including `t` name expert `e`. -/
def cnt (t : Fin 512) : ℕ := (Finset.univ.filter fun t' : Fin 512 => t' ≤ t ∧ k t' = e).card

theorem cnt_le (t : Fin 512) : cnt k e t ≤ 512 := (Finset.card_le_univ _).trans (by simp)

variable {k e}

theorem cnt_pos {t : Fin 512} (h : k t = e) : 1 ≤ cnt k e t :=
  Finset.card_pos.mpr ⟨t, by simp [h]⟩

theorem cnt_lt {t t' : Fin 512} (h : t < t') (h' : k t' = e) : cnt k e t < cnt k e t' :=
  Finset.card_lt_card (Finset.ssubset_iff_of_subset (fun x hx => by
    simp only [Finset.mem_filter, Finset.mem_univ, true_and] at hx ⊢
    exact ⟨hx.1.trans h.le, hx.2⟩) |>.mpr ⟨t', by simp [h'], by simp [h]⟩)

/-- Two tokens that name the same expert and have the same count are one. -/
theorem cnt_inj {t t' : Fin 512} (h : k t = e) (h' : k t' = e) (hc : cnt k e t = cnt k e t') : t = t' := by
  rcases lt_trichotomy t t' with hl | hl | hl
  · exact absurd hc (cnt_lt hl h').ne
  · exact hl
  · exact absurd hc.symm (cnt_lt hl h).ne

variable (k)

/-- The expert to which place `p` of device `c` belongs: places 0–11 to the device's first, 12–23 to its second. -/
def expert (c : Fin 16) (p : Fin 24) : BitVec 32 := BitVec.ofNat 32 (2 * c.val + p.val / 12)

/-- Token `t` sits at place `p` of device `c`: it names that place's expert and is the right one in the row. -/
def At (c : Fin 16) (p : Fin 24) (t : Fin 512) : Prop := k t = expert c p ∧ cnt k (expert c p) t = p.val % 12 + 1

instance (c : Fin 16) (p : Fin 24) (t : Fin 512) : Decidable (At k c p t) := inferInstanceAs (Decidable (_ ∧ _))

variable {k}

theorem At.unique {c : Fin 16} {p : Fin 24} {t t' : Fin 512} (h : At k c p t) (h' : At k c p t') : t = t' :=
  cnt_inj h.1 h'.1 (h.2.trans h'.2.symm)

variable (k)

/-- A sum over the tokens at a place has one term at most. -/
theorem sum_at {c : Fin 16} {p : Fin 24} {t : Fin 512} (h : At k c p t) (f : Fin 512 → EReal) :
    (∑ x : Fin 512, if At k c p x then f x else 0) = f t := by
  rw [Finset.sum_eq_single t (fun x _ hx => if_neg fun hx' => hx (hx'.unique h)) fun h => absurd (Finset.mem_univ _) h, if_pos h]

theorem sum_not_at {c : Fin 16} {p : Fin 24} (h : ∀ t, ¬ At k c p t) (f : Fin 512 → EReal) :
    (∑ x : Fin 512, if At k c p x then f x else 0) = 0 :=
  Finset.sum_eq_zero fun x _ => if_neg (h x)

/-- A token's place among an expert's twelve: it has one exactly if it names the expert and is among the first twelve. -/
theorem sum_places (t : Fin 512) (e : BitVec 32) (y : EReal) :
    (∑ r : Fin 12, if k t = e ∧ cnt k e t = r.val + 1 then y else 0) = if k t = e ∧ cnt k e t ≤ 12 then y else 0 := by
  by_cases h : k t = e ∧ cnt k e t ≤ 12
  · have h1 := cnt_pos h.1
    rw [if_pos h, Finset.sum_eq_single (⟨cnt k e t - 1, by omega⟩ : Fin 12)
      (fun r _ hr => if_neg fun hx => hr (Fin.ext (by show r.val = cnt k e t - 1; omega))) fun h => absurd (Finset.mem_univ _) h,
      if_pos ⟨h.1, by show _ = cnt k e t - 1 + 1; omega⟩]
  · rw [if_neg h]
    exact Finset.sum_eq_zero fun r _ => if_neg fun hx => h ⟨hx.1, by have := r.isLt; omega⟩

/-- All places of all devices, seen from one token: a sum over the experts it is kept for. -/
theorem sum_all (t : Fin 512) (y : ℕ → EReal) :
    (∑ c : Fin 16, ∑ p : Fin 24, if At k c p t then y (2 * c.val + p.val / 12) else 0)
      = ∑ e : Fin 32, if k t = BitVec.ofNat 32 e.val ∧ cnt k (BitVec.ofNat 32 e.val) t ≤ 12 then y e.val else 0 := by
  rw [← Equiv.sum_comp (finProdFinEquiv (m := 16) (n := 2)) (fun e : Fin 32 => if k t = BitVec.ofNat 32 e.val ∧ cnt k (BitVec.ofNat 32 e.val) t ≤ 12 then y e.val else 0),
    Fintype.sum_prod_type]
  refine Finset.sum_congr rfl fun c _ => ?_
  rw [← Equiv.sum_comp (finProdFinEquiv (m := 2) (n := 12)) (fun p : Fin 24 => if At k c p t then y (2 * c.val + p.val / 12) else 0),
    Fintype.sum_prod_type]
  refine Finset.sum_congr rfl fun j _ => ?_
  rw [← sum_places]
  refine Finset.sum_congr rfl fun r _ => ?_
  have hr := r.isLt
  have e1 : (finProdFinEquiv (m := 2) (n := 12) (j, r)).val / 12 = j.val := by
    show (r.val + 12 * j.val) / 12 = _; omega
  have e2 : (finProdFinEquiv (m := 2) (n := 12) (j, r)).val % 12 = r.val := by
    show (r.val + 12 * j.val) % 12 = _; omega
  have e3 : (finProdFinEquiv (m := 16) (n := 2) (c, j)).val = 2 * c.val + j.val := by
    show j.val + 2 * c.val = _; omega
  have eP : At k c (finProdFinEquiv (m := 2) (n := 12) (j, r)) t ↔ k t = BitVec.ofNat 32 (2 * c.val + j.val) ∧ cnt k (BitVec.ofNat 32 (2 * c.val + j.val)) t = r.val + 1 := by
    unfold At expert
    rw [e1, e2]
  simp only [eP, e1, e3]

/-- The count as a sum. -/
theorem cnt_eq_sum (t : Fin 512) :
    (∑ x : Fin 512, (if x ≤ t then (1 : EReal) else 0) * (if k x = e then (1 : EReal) else 0)) = ((cnt k e t : ℝ) : EReal) := by
  have h : ∀ x : Fin 512, (if x ≤ t then (1 : EReal) else 0) * (if k x = e then (1 : EReal) else 0)
      = (((if x ≤ t ∧ k x = e then 1 else 0 : ℕ) : ℝ) : EReal) := fun x => by
    by_cases h1 : x ≤ t <;> by_cases h2 : k x = e <;> simp [h1, h2]
  rw [Finset.sum_congr rfl fun x _ => h x, cnt, Finset.card_filter]
  rw [Nat.cast_sum]
  exact (map_sum (⟨⟨Real.toEReal, EReal.coe_zero⟩, EReal.coe_add⟩ : ℝ →+ EReal) _ _).symm

end Cert.Counting

end
-- ==== Proof.Words.lean ====
/-
# Words and the numbers they stand for

Comparisons of small words, the numbers small words become, and the five constants the kernel's text names.
-/
module

public import Idealize.ShloMosaic.Lib.Pointwise

@[expose] public section

noncomputable section

namespace Cert.Words

open Idealize.ShloMosaic

theorem cmpi_eq {w : ℕ} (a b : BitVec w) : IntOp.cmpi .eq a b = if a = b then 1#1 else 0#1 := by
  by_cases h : a = b
  · simp [IntOp.cmpi, h]
  · simp [IntOp.cmpi, h, beq_eq_false_iff_ne.mpr h]

theorem toInt_small {n : ℕ} (h : n < 2 ^ 31) : (BitVec.ofNat 32 n).toInt = n := by
  rw [BitVec.toInt_ofNat']; simp only [Int.bmod]; omega

theorem cmpi_sle {a b : ℕ} (ha : a < 2 ^ 31) (hb : b < 2 ^ 31) :
    IntOp.cmpi .sle (BitVec.ofNat 32 a) (BitVec.ofNat 32 b) = if a ≤ b then 1#1 else 0#1 := by
  simp only [IntOp.cmpi, BitVec.sle, toInt_small ha, toInt_small hb]
  by_cases h : a ≤ b <;> simp [h]

theorem bit_and (P Q : Prop) [Decidable P] [Decidable Q] :
    IntOp.andi (if P then 1#1 else 0#1) (if Q then 1#1 else 0#1) = if P ∧ Q then 1#1 else 0#1 := by
  by_cases h1 : P <;> by_cases h2 : Q <;> simp [h1, h2, IntOp.andi]

theorem ofBool_bit (P : Prop) [Decidable P] : BitVec.ofBool (decide P) = if P then 1#1 else 0#1 := by
  by_cases h : P <;> simp [h]

theorem select_bit {α : Type} (P : Prop) [Decidable P] (x y : α) : Scalar.select (if P then 1#1 else 0#1) x y = if P then x else y := by
  by_cases h : P
  · simp [h, Scalar.select]
  · simp only [h, Scalar.select, if_false]; exact if_neg (by decide)

/-- A small word as a number. -/
theorem num_small {n : ℕ} (h : n < 2 ^ 31) : (FloatOps.sitofp .f32 (BitVec.ofNat 32 n) : Ideal .f32) = ((n : ℝ) : EReal) := by
  show (((BitVec.ofNat 32 n).toInt : ℝ) : EReal) = _
  rw [toInt_small h]; simp

/-- A bit as a number. -/
theorem num_bit (P : Prop) [Decidable P] : (FloatOps.sitofp .f32 ((if P then 1#1 else 0#1 : BitVec 1).setWidth 32) : Ideal .f32) = if P then (1 : EReal) else 0 := by
  by_cases h : P
  · rw [if_pos h, if_pos h]; exact (num_small (n := 1) (by decide)).trans (by simp)
  · rw [if_neg h, if_neg h]; exact (num_small (n := 0) (by decide)).trans (by simp)

theorem half_val : Ideal.ofBits .f32 1056964608#32 = (((1 : ℝ) / 2 : ℝ) : EReal) := by
  simp [Ideal.ofBits, Ideal.ieee, -EReal.coe_mul]; norm_num
theorem top_val : Ideal.ofBits .f32 1095237632#32 = (((25 : ℝ) / 2 : ℝ) : EReal) := by
  simp [Ideal.ofBits, Ideal.ieee, -EReal.coe_mul]; norm_num
theorem eleven_val : Ideal.ofBits .f32 1093664768#32 = ((11 : ℝ) : EReal) := by
  simp [Ideal.ofBits, Ideal.ieee, -EReal.coe_mul]; norm_num
theorem negOne_val : Ideal.ofBits .f32 3212836864#32 = ((-1 : ℝ) : EReal) := by
  simp [Ideal.ofBits, Ideal.ieee, -EReal.coe_mul, -EReal.coe_neg]; norm_num

end Cert.Words

end
-- ==== Proof.IdealPlaces.lean ====
/-
# Who sits where on a device

The kernel marks its own experts' tokens, counts them by a product with a triangle of ones, and from mark and count finds
each token's place among the device's twenty-four.  Read at an entry, these are the marks, counts and places of Counting.
-/
module

public import proofs.«01_k».proof.Proof.Counting
public import proofs.«01_k».proof.Proof.Words
public import proofs.«01_k».proof.Proof.IdealValues

@[expose] public section

set_option maxRecDepth 20000

noncomputable section

namespace Cert.KernelIdealProof

open Cert.KernelIdeal Cert.KernelIdeal.Gen Idealize.ShloMosaic Cert.Counting Cert.Words

/-- The expert each token names. -/
def names (I : Vec Ideal S512x1 .i32) (t : Fin 512) : BitVec 32 := I (ix2 t 0)

variable (c : Dev nD) (I : Vec Ideal S512x1 .i32)

theorem pos_eq : pos c = BitVec.ofNat 32 c.val := by revert c; decide

theorem expert_word (j : Fin 2) : IntOp.addi (Scalar.muli (pos c) 2#32) (BitVec.ofNat 32 j.val) = BitVec.ofNat 32 (2 * c.val + j.val) := by
  revert c j; decide

theorem mine_apply (t : Fin 512) (j : Fin 2) :
    mine (F := Ideal) c I (ix2 t j) = if names I t = BitVec.ofNat 32 (2 * c.val + j.val) then (1 : EReal) else 0 := by
  pointwise [mine, k0_pay1]
  rw [expert_word, cmpi_eq]
  exact num_bit _

theorem count_apply (t : Fin 512) (j : Fin 2) :
    count (F := Ideal) c I (ix2 t j) = ((cnt (names I) (BitVec.ofNat 32 (2 * c.val + j.val)) t : ℝ) : EReal) := by
  pointwise [count, k0_pay2]
  rw [← cnt_eq_sum]
  refine Finset.sum_congr rfl fun x _ => congrArg₂ (· * ·) ?_ (mine_apply c I x j)
  rw [cmpi_sle (by omega) (by omega)]
  exact num_bit _

theorem half_apply (i : S512x2.Idx) : half (F := Ideal) i = (((1 : ℝ) / 2 : ℝ) : EReal) := half_val

/-- A mark above a half is a mark. -/
theorem mark (P : Prop) [Decidable P] : (((1 : ℝ) / 2 : ℝ) : EReal) < (if P then (1 : EReal) else 0) ↔ P := by
  by_cases h : P
  · simp only [h, if_true, iff_true]; rw [← EReal.coe_one, EReal.coe_lt_coe_iff]; norm_num
  · simp only [h, if_false, iff_false]; rw [← EReal.coe_zero, EReal.coe_lt_coe_iff]; norm_num

/-- A count below twelve and a half is twelve at most. -/
theorem low (n : ℕ) : ((n : ℝ) : EReal) < (((25 : ℝ) / 2 : ℝ) : EReal) ↔ n ≤ 12 := by
  rw [EReal.coe_lt_coe_iff]
  constructor
  · intro h; by_contra h'; have : (13 : ℝ) ≤ n := by exact_mod_cast (by omega : 13 ≤ n)
    linarith
  · intro h; have : (n : ℝ) ≤ 12 := by exact_mod_cast h
    linarith

/-- The place found from two marks and two counts is `p` exactly if the mark's count, less one, is the place's rank. -/
theorem place_eq (P Q : Prop) [Decidable P] [Decidable Q] (hPQ : ¬ (P ∧ Q)) (a b : ℕ) (p : Fin 24) (ha : P → 1 ≤ a) (hb : Q → 1 ≤ b) :
    (if (((1 : ℝ) / 2 : ℝ) : EReal) < (if P ∧ a ≤ 12 then (1 : EReal) else 0) + (if Q ∧ b ≤ 12 then (1 : EReal) else 0) then
        (if P ∧ a ≤ 12 then ((a : ℝ) : EReal) - 1 else 0) + (if Q ∧ b ≤ 12 then ((b : ℝ) : EReal) + ((11 : ℝ) : EReal) else 0)
      else ((-1 : ℝ) : EReal)) = ((p.val : ℝ) : EReal)
    ↔ if p.val / 12 = 0 then P ∧ a = p.val % 12 + 1 else Q ∧ b = p.val % 12 + 1 := by
  have hp := p.isLt
  have hneg : ((-1 : ℝ) : EReal) ≠ ((p.val : ℝ) : EReal) := fun h => by
    have h' := EReal.coe_eq_coe_iff.mp h
    have : (0 : ℝ) ≤ p.val := Nat.cast_nonneg _
    linarith
  have h1 : (((1 : ℝ) / 2 : ℝ) : EReal) < 1 := by rw [← EReal.coe_one, EReal.coe_lt_coe_iff]; norm_num
  have h0 : ¬ (((1 : ℝ) / 2 : ℝ) : EReal) < 0 := by rw [← EReal.coe_zero, EReal.coe_lt_coe_iff]; norm_num
  have hA : ((a : ℝ) : EReal) - 1 = ((p.val : ℝ) : EReal) ↔ a = p.val + 1 := by
    rw [← EReal.coe_one, ← EReal.coe_sub, EReal.coe_eq_coe_iff, sub_eq_iff_eq_add]; exact_mod_cast Iff.rfl
  have hB : ((b : ℝ) : EReal) + ((11 : ℝ) : EReal) = ((p.val : ℝ) : EReal) ↔ b + 11 = p.val := by
    rw [← EReal.coe_add, EReal.coe_eq_coe_iff]; exact_mod_cast Iff.rfl
  by_cases hP : P ∧ a ≤ 12
  · have hQ : ¬ (Q ∧ b ≤ 12) := fun h => hPQ ⟨hP.1, h.1⟩
    have hQ' : ¬ Q := fun h => hPQ ⟨hP.1, h⟩
    have := ha hP.1
    rw [if_pos hP, if_neg hQ, add_zero, if_pos h1, if_pos hP, if_neg hQ, add_zero, hA]
    by_cases hz : p.val / 12 = 0
    · rw [if_pos hz, and_iff_right hP.1]; omega
    · rw [if_neg hz, iff_false_right fun h => hQ' h.1]; omega
  · by_cases hQ : Q ∧ b ≤ 12
    · have hP' : ¬ P := fun h => hPQ ⟨h, hQ.1⟩
      have := hb hQ.1
      rw [if_neg hP, if_pos hQ, zero_add, if_pos h1, if_neg hP, if_pos hQ, zero_add, hB]
      by_cases hz : p.val / 12 = 0
      · rw [if_pos hz, iff_false_right fun h => hP' h.1]; omega
      · rw [if_neg hz, and_iff_right hQ.1]; omega
    · simp only [if_neg hP, if_neg hQ, add_zero, if_neg h0, hneg, false_iff]
      split
      · rintro ⟨h, h'⟩; exact hP ⟨h, by omega⟩
      · rintro ⟨h, h'⟩; exact hQ ⟨h, by omega⟩

/-- Entry `(t, p)`: one if token `t` sits at place `p`, else zero. -/
theorem place_apply (t : Fin 512) (p : Fin 24) :
    place (F := Ideal) c I (ix2 t p) = if At (names I) c p t then (1 : EReal) else 0 := by
  have hp := p.isLt
  have hc := c.isLt
  pointwise [place, k0_pay4]
  simp only [mine_apply, count_apply, half_apply, half_val, top_val, eleven_val, negOne_val, ofBool_bit, mark, low, bit_and, select_bit]
  rw [num_small (n := p.val) (by omega), num_bit]
  refine if_congr ?_ rfl rfl
  refine (place_eq _ _ (fun h => ?_) _ _ p (fun h => cnt_pos h) (fun h => cnt_pos h)).trans ?_
  · have h' := congrArg BitVec.toNat (h.1.symm.trans h.2)
    simp at h'
    omega
  · unfold At expert
    have : p.val / 12 = 0 ∨ p.val / 12 = 1 := by omega
    rcases this with h | h <;> simp [h]

end Cert.KernelIdealProof

end
-- ==== Proof.IdealSlots.lean ====
/-
# What a slot holds

A device's block, read back as the kernel reads every slot: twenty-four rows, each the product of the token that sits at
that place with its expert's weights, and twenty-four numbers, each that token's number, or minus one at an empty place.
-/
module

public import proofs.«01_k».proof.Proof.IdealPlaces
public import proofs.«01_k».proof.Proof.IdealDat

@[expose] public section

set_option maxRecDepth 20000

noncomputable section

namespace Cert.KernelIdealProof

open Cert.KernelIdeal Cert.KernelIdeal.Gen Idealize.ShloMosaic Cert.Counting Cert.Words

variable (c : Dev nD) (X : Vec Ideal S512x256 .f32) (I : Vec Ideal S512x1 .i32) (E : Vec Ideal S2x256x512 .f32)

/-! ## The block as stored -/

theorem stored_rows (f₀) (q : Fin 24) (f : Fin 512) :
    slotVal 0 (stored (F := Ideal) c X I E f₀) (ix3 0 ⟨q.val, by omega⟩ f) = rowsSt c X I E (ix3 0 q f) := by
  have hq := q.isLt
  have e1 : (slotR 0).emb (ix3 0 ⟨q.val, by omega⟩ f) = (gM.access rowsR).emb (ix3 0 q f) := by
    funext a; apply Fin.ext; fin_cases a <;> rfl
  show stored (F := Ideal) c X I E f₀ ((slotR 0).emb (ix3 0 ⟨q.val, by omega⟩ f)) = _
  unfold stored
  rw [View.write_of_not_mem, e1]
  · exact View.write_emb_of_mem _ _ (Finset.mem_univ _)
  · intro h
    rw [show (gM.access idsR).setOn Finset.univ = idsR.set from View.set_slice_whole _ _] at h
    have h' := (Rect.mem_set_unit.mp h 1).1
    have : (24 : ℕ) ≤ 0 + 1 * q.val := h'
    omega

theorem stored_ids (f₀) (q : Fin 2) (f : Fin 512) :
    slotVal 0 (stored (F := Ideal) c X I E f₀) (ix3 0 ⟨24 + q.val, by omega⟩ f) = idsSt c I (ix3 0 q f) := by
  have hq := q.isLt
  have e1 : (slotR 0).emb (ix3 0 ⟨24 + q.val, by omega⟩ f) = (gM.access idsR).emb (ix3 0 q f) := by
    funext a; apply Fin.ext; fin_cases a
    · rfl
    · show 0 + 1 * (24 + q.val) = 24 + 1 * q.val; omega
    · rfl
  show stored (F := Ideal) c X I E f₀ ((slotR 0).emb (ix3 0 ⟨24 + q.val, by omega⟩ f)) = _
  unfold stored
  rw [e1]
  exact View.write_emb_of_mem _ _ (Finset.mem_univ _)

/-! ## Rows -/

/-- The row at place `p`: the token that sits there, times the place's expert's weights. -/
def row (p : Fin 24) (f : Fin 512) : EReal :=
  ∑ d : Fin 256, (∑ x : Fin 512, if At (names I) c p x then X (ix2 x d) else 0) * E (ix3 ⟨p.val / 12, by omega⟩ d f)

theorem gather_apply (p : Fin 24) (d : Fin 256) :
    k0_pay5 (F := Ideal) (mine c I) (count c I) (half (F := Ideal)) X (ix2 p d) = ∑ x : Fin 512, if At (names I) c p x then X (ix2 x d) else 0 := by
  pointwise [k0_pay5]
  refine Finset.sum_congr rfl fun x _ => ?_
  rw [show k0_pay4 (F := Ideal) (mine c I) (count c I) (half (F := Ideal)) (ix2 x p) = _ from place_apply c I x p, ite_mul, one_mul, zero_mul]

theorem rows0_apply (p : Fin 12) (f : Fin 512) : rows0 c X I E (ix2 p f) = row c X I E ⟨p.val, by omega⟩ f := by
  have hp := p.isLt
  pointwise [rows0, k0_pay6]
  refine Finset.sum_congr rfl fun d _ => congrArg₂ (· * ·) (gather_apply c X I _ d) ?_
  show E _ = E _
  refine congrArg E ?_
  funext a; apply Fin.ext; fin_cases a
  · show 0 + 1 * 0 = p.val / 12; omega
  · show 0 + 1 * d.val = d.val; omega
  · show 0 + 1 * f.val = f.val; omega

theorem rows1_apply (p : Fin 12) (f : Fin 512) :
    (∑ d : Fin 256, toks1 c X I (ix2 p d) * wts1 E (ix2 d f)) = row c X I E ⟨12 + p.val, by omega⟩ f := by
  have hp := p.isLt
  refine Finset.sum_congr rfl fun d _ => congrArg₂ (· * ·) ?_ ?_
  · pointwise [toks1, k0_pay7]
    exact gather_apply c X I _ d
  · pointwise [wts1, k0_pay8]
    show E _ = E _
    refine congrArg E ?_
    funext a; apply Fin.ext; fin_cases a
    · show 1 + 1 * 0 = (12 + p.val) / 12; omega
    · show 0 + 1 * d.val = d.val; omega
    · show 0 + 1 * f.val = f.val; omega

theorem rowsSt_apply (q : Fin 24) (f : Fin 512) :
    rowsSt c X I E (ix3 0 q f) = row c X I E (if q.val % 2 = 0 then ⟨q.val / 2, by omega⟩ else ⟨12 + q.val / 2, by omega⟩) f := by
  pointwise [rowsSt, k0_pay9]
  split
  · exact rows0_apply c X I E _ f
  · rw [rows1_apply]

/-- Row `p` of the slot, as the kernel reads it. -/
theorem slotRows_apply (f₀) (p : Fin 24) (f : Fin 512) :
    slotRows (slotVal 0 (stored (F := Ideal) c X I E f₀)) (ix2 p f) = row c X I E p f := by
  have hp := p.isLt
  pointwise [slotRows, k0_pay14, k0_pay12, k0_pay13]
  split
  · refine (stored_rows c X I E f₀ ⟨2 * p.val, by omega⟩ f).trans ((rowsSt_apply c X I E _ f).trans ?_)
    refine congrArg (fun p => row c X I E p f) (Fin.ext ?_)
    rw [if_pos (by show 2 * p.val % 2 = 0; omega)]
    show 2 * p.val / 2 = p.val; omega
  · refine (stored_rows c X I E f₀ ⟨2 * (p.val - 12) + 1, by omega⟩ f).trans ((rowsSt_apply c X I E _ f).trans ?_)
    refine congrArg (fun p => row c X I E p f) (Fin.ext ?_)
    rw [if_neg (by show ¬ (2 * (p.val - 12) + 1) % 2 = 0; omega)]
    show 12 + (2 * (p.val - 12) + 1) / 2 = p.val; omega

/-! ## Token numbers -/

/-- The number at place `p`: the number of the token that sits there, or minus one. -/
def num (p : Fin 24) : EReal := (∑ x : Fin 512, if At (names I) c p x then ((x.val : ℝ) : EReal) + 1 else 0) - 1

theorem num_at {p : Fin 24} {t : Fin 512} (h : At (names I) c p t) : num c I p = ((t.val : ℝ) : EReal) := by
  unfold num
  rw [sum_at _ h fun x => ((x.val : ℝ) : EReal) + 1, ← EReal.coe_one, ← EReal.coe_add, ← EReal.coe_sub, add_sub_cancel_right]

theorem num_not_at {p : Fin 24} (h : ∀ t, ¬ At (names I) c p t) : num c I p = ((-1 : ℝ) : EReal) := by
  unfold num
  rw [sum_not_at _ h fun x => ((x.val : ℝ) : EReal) + 1, ← EReal.coe_one, ← EReal.coe_zero, ← EReal.coe_sub, zero_sub]

/-- A place's number is a token's number exactly if that token sits there. -/
theorem eq_num (p : Fin 24) (t : Fin 512) : ((t.val : ℝ) : EReal) = num c I p ↔ At (names I) c p t := by
  by_cases h : ∃ t', At (names I) c p t'
  · obtain ⟨t', ht'⟩ := h
    rw [num_at c I ht', EReal.coe_eq_coe_iff, Nat.cast_inj]
    exact ⟨fun e => Fin.ext e ▸ ht', fun h' => congrArg Fin.val (h'.unique ht')⟩
  · have h' : ∀ t', ¬ At (names I) c p t' := fun t' ht' => h ⟨t', ht'⟩
    rw [num_not_at c I h', EReal.coe_eq_coe_iff]
    refine ⟨fun e => ?_, fun h'' => absurd h'' (h' t)⟩
    have : (0 : ℝ) ≤ t.val := Nat.cast_nonneg _
    linarith

theorem num_sub_self (p : Fin 24) : num c I p - num c I p = 0 := by
  by_cases h : ∃ t', At (names I) c p t'
  · obtain ⟨t', ht'⟩ := h
    rw [num_at c I ht', ← EReal.coe_sub, sub_self, EReal.coe_zero]
  · rw [num_not_at c I fun t' ht' => h ⟨t', ht'⟩, ← EReal.coe_sub, sub_self, EReal.coe_zero]

theorem ids_sum (p : Fin 24) :
    (∑ x : Fin 512, ((FloatOps.sitofp .f32 (BitVec.ofNat 32 x.val) : Ideal .f32) + 1) * place c I (ix2 x p)) - 1 = num c I p := by
  refine congrArg (· - (1 : EReal)) (Finset.sum_congr rfl fun x _ => ?_)
  rw [place_apply, num_small (by omega), mul_ite, mul_one, mul_zero]

theorem idsSt_apply (p : Fin 24) (q : Fin 2) :
    idsSt c I (ix3 0 q ⟨p.val, by omega⟩) = if q.val % 2 = 0 then num c I p else 0 := by
  have hp := p.isLt
  pointwise [idsSt, k0_pay10]
  rw [ids_sum, num_sub_self]

/-- Number `p` of the slot, as the kernel reads it. -/
theorem slotIds_apply (f₀) (p : Fin 24) :
    slotIds (slotVal 0 (stored (F := Ideal) c X I E f₀)) (ix2 0 p) = num c I p := by
  have hp := p.isLt
  pointwise [slotIds, k0_pay15, k0_pay12, k0_pay13]
  refine (congrArg₂ (· + ·) ((stored_ids c X I E f₀ 0 ⟨p.val, by omega⟩).trans (idsSt_apply c I p 0)) ((stored_ids c X I E f₀ 1 ⟨p.val, by omega⟩).trans (idsSt_apply c I p 1))).trans ?_
  exact add_zero _

end Cert.KernelIdealProof

end
-- ==== Proof.IdealOut.lean ====
/-
# What the kernel computes

The sixteen slots' numbers and rows are laid one after the other, and every token takes the rows whose number is its own.
On every device that is the same sum: over the devices and their places, of the rows at which the token sits.
-/
module

public import proofs.«01_k».proof.Proof.IdealSlots

@[expose] public section

set_option maxRecDepth 20000

noncomputable section

namespace Cert.KernelIdealProof

open Cert.KernelIdeal Cert.KernelIdeal.Gen Idealize.ShloMosaic Cert.Counting Cert.Words

/-- Place `p` of slot `s` among all the places. -/
def at384 (s : Fin 16) (p : Fin 24) : Fin 384 := ⟨p.val + 24 * s.val, by omega⟩

theorem allIds_apply (b : Fin 16 → Vec Ideal S1x26x512 .bf16) (s : Fin 16) (p : Fin 24) :
    allIds b (ix2 0 (at384 s p)) = slotIds (b s) (ix2 0 p) := by
  have hp := p.isLt
  refine concatenate_ofFn_apply (t := S1x384) (s₁ := S1x24) 1 (fun n : Fin 16 => slotIds (b n)) _ rfl 24 rfl (ix2 0 (at384 s p)) s ?_ (ix2 0 p) ?_ ?_
  · show (p.val + 24 * s.val) / 24 = s.val; omega
  · show p.val = (p.val + 24 * s.val) % 24; omega
  · intro a ha
    fin_cases a
    · rfl
    · exact absurd rfl ha

theorem allRows_apply (b : Fin 16 → Vec Ideal S1x26x512 .bf16) (s : Fin 16) (p : Fin 24) (f : Fin 512) :
    allRows b (ix2 (at384 s p) f) = slotRows (b s) (ix2 p f) := by
  have hp := p.isLt
  refine concatenate_ofFn_apply (t := S384x512) (s₁ := S24x512) 0 (fun n : Fin 16 => slotRows (b n)) _ rfl 24 rfl (ix2 (at384 s p) f) s ?_ (ix2 p f) ?_ ?_
  · show (p.val + 24 * s.val) / 24 = s.val; omega
  · show p.val = (p.val + 24 * s.val) % 24; omega
  · intro a ha
    fin_cases a
    · exact absurd rfl ha
    · rfl

/-- Entry `(t, f)` of the result from the sixteen slots. -/
theorem outOf_apply (b : Fin 16 → Vec Ideal S1x26x512 .bf16) (t f : Fin 512) :
    outOf b (ix2 t f) = ∑ s : Fin 16, ∑ p : Fin 24,
      (if ((t.val : ℝ) : EReal) = slotIds (b s) (ix2 0 p) then (1 : EReal) else 0) * slotRows (b s) (ix2 p f) := by
  pointwise [outOf, k0_pay86, k0_pay85, k0_pay11]
  rw [← Equiv.sum_comp (finProdFinEquiv (m := 16) (n := 24)), Fintype.sum_prod_type]
  refine Finset.sum_congr rfl fun s _ => Finset.sum_congr rfl fun p _ => ?_
  rw [show finProdFinEquiv (m := 16) (n := 24) (s, p) = at384 s p from rfl, allIds_apply, allRows_apply, num_small (by omega), ofBool_bit, num_bit]

/-- The slots of device `c` are the devices' blocks, from its own on. -/
theorem slots_eq (B : Dev nD → Vec Ideal S1x26x512 .bf16) (c : Dev nD) (s : Fin 16) :
    slots B c s = B ((c : Fin 16) + s : Fin 16) := by
  refine Fin.cases ?_ (fun j => ?_) s
  · show B c = _
    exact congrArg B (add_zero (c : Fin 16)).symm
  · show B (aft c j) = _
    exact congrArg B (Fin.ext (by show (c.val + (j.val + 1)) % 16 = (c.val + j.succ.val) % 16; rfl))

section Value

variable (X : Vec Ideal S512x256 .f32) (I : Vec Ideal S512x1 .i32) (E : Dev nD → Vec Ideal S2x256x512 .f32)
variable (B : Dev nD → Vec Ideal S1x26x512 .bf16)
variable (hB : ∀ d : Dev nD, ∃ f₀, B d = slotVal 0 (stored (F := Ideal) d X I (E d) f₀))

include hB in
/-- Entry `(t, f)` of the result on device `c`: the sum of the rows at which token `t` sits, over all devices. -/
theorem out_rows (c : Dev nD) (t f : Fin 512) :
    outOf (slots B c) (ix2 t f) = ∑ d : Fin 16, ∑ p : Fin 24, if At (names I) d p t then row d X I (E d) p f else 0 := by
  rw [outOf_apply, ← Equiv.sum_comp (Equiv.addLeft (c : Fin 16)) fun d : Fin 16 => ∑ p : Fin 24, if At (names I) d p t then row d X I (E d) p f else 0]
  refine Finset.sum_congr rfl fun s _ => Finset.sum_congr rfl fun p _ => ?_
  rw [slots_eq]
  show _ = if At (names I) ((c : Fin 16) + s : Fin 16) p t then row ((c : Fin 16) + s : Fin 16) X I (E ((c : Fin 16) + s : Fin 16)) p f else 0
  generalize ((c : Fin 16) + s : Fin 16) = d
  obtain ⟨f₀, hd⟩ := hB d
  rw [hd, slotIds_apply, slotRows_apply, ite_mul, one_mul, zero_mul]
  exact if_congr (eq_num d I p t) rfl rfl

/-- The row at which a token sits is the token's product with its expert's weights. -/
theorem row_at {d : Dev nD} {p : Fin 24} {t : Fin 512} (h : At (names I) d p t) (f : Fin 512) :
    row d X I (E d) p f = ∑ k : Fin 256, X (ix2 t k) * E d (ix3 ⟨p.val / 12, by omega⟩ k f) := by
  unfold row
  exact Finset.sum_congr rfl fun k _ => congrArg (· * _) (sum_at _ h fun x => X (ix2 x k))

include hB in
/-- Entry `(t, f)` of the result on any device: the token's product with each expert's weights, for the experts that keep it. -/
theorem out_value (c : Dev nD) (t f : Fin 512) (y : ℕ → EReal)
    (hy : ∀ (d : Dev nD) (j : Fin 2), y (2 * d.val + j.val) = ∑ k : Fin 256, X (ix2 t k) * E d (ix3 j k f)) :
    outOf (slots B c) (ix2 t f)
      = ∑ e : Fin 32, if names I t = BitVec.ofNat 32 e.val ∧ cnt (names I) (BitVec.ofNat 32 e.val) t ≤ 12 then y e.val else 0 := by
  rw [out_rows X I E B hB, ← sum_all]
  refine Finset.sum_congr rfl fun d _ => Finset.sum_congr rfl fun p _ => ?_
  have hp := p.isLt
  by_cases h : At (names I) d p t
  · rw [if_pos h, if_pos h, row_at X I E h f]
    exact (hy d ⟨p.val / 12, by omega⟩).symm
  · rw [if_neg h, if_neg h]

end Value

end Cert.KernelIdealProof

end
-- ==== Proof.IdealResult.lean ====
/-
# The arrays before and after

Each of the kernel's five windows is its whole array: what is staged of an argument is the argument, and the result array
ends as what was computed for it.
-/
module

public import proofs.«01_k».proof.Proof.IdealOut
public import proofs.«01_k».proof.Proof.IdealLaunch

@[expose] public section

set_option maxRecDepth 20000

noncomputable section

namespace Cert.KernelIdealProof

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD)

theorem xIn_eq : xIn m ρ c = m ((c : Thread nD τ).loc main_arg0) := by
  funext i
  show m ((c : Thread nD τ).loc main_arg0) ((win0_0.rect (0 : Fin 1)).emb i) = _
  exact congrArg _ (funext fun a => Fin.ext (Pipeline.Window.rect_emb_val_of_index_zero win0_0 _ a (by fin_cases a <;> rfl) i))

theorem iIn_eq : iIn m ρ c = m ((c : Thread nD τ).loc main_arg2) := by
  funext i
  show m ((c : Thread nD τ).loc main_arg2) ((win0_2.rect (0 : Fin 1)).emb i) = _
  exact congrArg _ (funext fun a => Fin.ext (Pipeline.Window.rect_emb_val_of_index_zero win0_2 _ a (by fin_cases a <;> rfl) i))

theorem wIn_eq : wIn m ρ c = m ((c : Thread nD τ).loc main_arg3) := by
  funext i
  show m ((c : Thread nD τ).loc main_arg3) ((win0_3.rect (0 : Fin 1)).emb i) = _
  exact congrArg _ (funext fun a => Fin.ext (Pipeline.Window.rect_emb_val_of_index_zero win0_3 _ a (by fin_cases a <;> rfl) i))

/-- The result array ends as what was computed. -/
theorem finalA_out : finalA m ρ c 4 = outAt m ρ c := by
  have hw : ((cfg0.win 4).blk t0_0).view.read (Elt F) (finalA m ρ c 4) = (dats m ρ 0 c).flushed 4 t0_0 := by
    unfold finalA
    rw [show cfg0.N = t0_0.val + 1 from rfl, (dats m ρ 0 c).arrAt_succ (4 : Fin 5) t0_0, flush0_4, if_pos rfl]
    exact View.read_write_univ _ _
  funext i
  have h := congrFun hw i
  refine Eq.trans ?_ (h.trans rfl)
  show finalA m ρ c 4 i = finalA m ρ c 4 ((win0_4.rect t0_0).emb i)
  exact congrArg _ (funext fun a => Fin.ext (Pipeline.Window.rect_emb_val_of_index_zero win0_4 _ a (by fin_cases a <;> rfl) i).symm)

end Cert.KernelIdealProof

end
-- ==== Proof.RefValue.lean ====
/-
# What the reference computes

The reference's composed term, read at one entry: the sum over the experts of the token's product with that expert's
weights, where the token names the expert and is among the first twelve that do.
-/
module

public import proofs.«01_k».proof.Proof.Counting
public import proofs.«01_k».proof.Proof.Words
public import proofs.«01_k».proof.Proof.Gen.ReferenceIdeal.Run
public import Idealize.ShloMosaic.Lib.Routing.OpsOne

@[expose] public section

set_option maxRecDepth 20000

noncomputable section

namespace Cert.ReferenceProof

open Cert.ReferenceIdeal Cert.ReferenceIdeal.Gen Idealize.ShloMosaic Cert.Counting Cert.Words

/-- Which token names which expert. -/
def mine (I : IVec S512x1 32) : IVec S512x32 1 :=
  cmpi .eq (broadcastInDim S512x32 ![0, 1] bcast_S512x1_S512x32_0_1 I) (broadcastInDim S512x32 ![0, 1] bcast_S1x32_S512x32_0_1 (broadcastInDim S1x32 ![1] bcast_S32_S1x32_1 (iotaInDim S32 32 0)))

/-- How many tokens up to each one name the expert. -/
def count (I : IVec S512x1 32) : IVec S512x32 32 :=
  Host.reduceWindow IntOp.addi ![512, 1] ![1, 1] ![511, 0] ![0, 0] (extui 32 (mine I) natLt_1_32) (broadcastInDim S_ ![] bcast_S_S_ (constantI S_ 32 0#32)) reduceWindows_S512x32_S512x32_w512s1p511_0_w1s1p0_0 h_S_

/-- Which token is kept for which expert. -/
def kept (I : IVec S512x1 32) : IVec S512x32 1 := andi (mine I) (cmpi .sle (count I) (broadcastInDim S512x32 ![] bcast_S_S512x32 (constantI S_ 32 12#32)))

/-- The result. -/
def out (X : FVec Ideal S512x256 .f32) (I : IVec S512x1 32) (E : FVec Ideal S32x256x512 .f32) : FVec Ideal S512x512 .f32 :=
  Host.reduceAdd (select (broadcastInDim S32x512x512 ![0, 1, 2] bcast_S32x512x1_S32x512x512_0_1_2 (broadcastInDim S32x512x1 ![0, 1] bcast_S32x512_S32x512x1_0_1 (transpose S32x512 [1, 0] (kept I) transposes_S512x32_S32x512_1_0))) (transpose S32x512x512 [0, 2, 1] (Host.dotGeneral dot_S32x256x512_S512x256_S32x512x512_1_1_02_0_n_n none E X) transposes_S32x512x512_S32x512x512_0_2_1) (broadcastInDim S32x512x512 ![] bcast_S_S32x512x512 (id (constant S_ .f32 0x00000000#32)))) (constant S_ .f32 0x00000000#32) reducesTo_S32x512x512_S512x512_d0 h_S_

/-- The expert each token names. -/
def names (I : IVec S512x1 32) (t : Fin 512) : BitVec 32 := I (ix2 t 0)

theorem mine_apply (I : IVec S512x1 32) (t : Fin 512) (e : Fin 32) :
    mine I (ix2 t e) = if names I t = BitVec.ofNat 32 e.val then 1#1 else 0#1 := by
  pointwise [mine]
  unfold names
  exact cmpi_eq _ _

theorem count_apply (I : IVec S512x1 32) (t : Fin 512) (e : Fin 32) :
    count I (ix2 t e) = BitVec.ofNat 32 (cnt (names I) (BitVec.ofNat 32 e.val) t) := by
  have h := Routing.cumsum_rows_sum (A := 512) (Am1 := 511) (N := 32) rfl (extui 32 (mine I) natLt_1_32) (broadcastInDim S_ ![] bcast_S_S_ (constantI S_ 32 0#32)) (by pointwise)
    reduceWindows_S512x32_S512x32_w512s1p511_0_w1s1p0_0 h_S_ t e
  refine h.trans ?_
  have e1 : ∀ x : Fin 512, (if x ≤ t then (extui 32 (mine I) natLt_1_32) (ix2 x e) else 0)
      = BitVec.ofNat 32 (if x ≤ t ∧ names I x = BitVec.ofNat 32 e.val then 1 else 0) := fun x => by
    show (if x ≤ t then (mine I (ix2 x e)).setWidth 32 else 0) = _
    rw [mine_apply]
    by_cases h1 : x ≤ t <;> by_cases h2 : names I x = BitVec.ofNat 32 e.val <;> simp [h1, h2]
  refine (Finset.sum_congr rfl fun x _ => e1 x).trans ?_
  rw [cnt, Finset.card_filter]
  exact (map_sum (Nat.castAddMonoidHom (BitVec 32)) _ _).symm

theorem kept_apply (I : IVec S512x1 32) (t : Fin 512) (e : Fin 32) :
    kept I (ix2 t e) = if names I t = BitVec.ofNat 32 e.val ∧ cnt (names I) (BitVec.ofNat 32 e.val) t ≤ 12 then 1#1 else 0#1 := by
  pointwise [kept]
  rw [mine_apply, count_apply]
  have hc := cnt_le (names I) (BitVec.ofNat 32 e.val) t
  rw [show IntOp.cmpi .sle (BitVec.ofNat 32 (cnt (names I) (BitVec.ofNat 32 e.val) t)) 12#32 = _ from cmpi_sle (b := 12) (by omega) (by decide)]
  exact bit_and _ _

/-- The token's product with an expert's weights. -/
def prod (X : FVec Ideal S512x256 .f32) (E : FVec Ideal S32x256x512 .f32) (t : Fin 512) (f : Fin 512) (e : Fin 32) : EReal :=
  ∑ d : Fin 256, X (ix2 t d) * E (ix3 e d f)

/-- Entry `(t, f)` of the result. -/
theorem out_apply (X : FVec Ideal S512x256 .f32) (I : IVec S512x1 32) (E : FVec Ideal S32x256x512 .f32) (t f : Fin 512) :
    out X I E (ix2 t f) = ∑ e : Fin 32, if names I t = BitVec.ofNat 32 e.val ∧ cnt (names I) (BitVec.ofNat 32 e.val) t ≤ 12 then prod X E t f e else 0 := by
  pointwise [out]
  refine Finset.sum_congr rfl fun e _ => ?_
  rw [kept_apply]
  refine (select_bit _ _ _).trans (if_congr Iff.rfl (Finset.sum_congr rfl fun d _ => mul_comm _ _) ?_)
  simp only [id]
  pointwise

end Cert.ReferenceProof

end
-- ==== Proof.Equation.lean ====
/-
# The kernel computes the reference

On every device the result array ends as the reference's: entry by entry both are the token's product with each expert's
weights, summed over the experts that keep the token.
-/
module

public import proofs.«01_k».proof.Defs
public import proofs.«01_k».proof.Proof.IdealResult
public import proofs.«01_k».proof.Proof.RefValue

@[expose] public section

set_option maxRecDepth 20000

noncomputable section

namespace Cert.Proof

open Idealize.ShloMosaic Idealize.ShloMosaic.TcCoe Idealize.SL.Sem Cert.KernelIdealProof

section Equal

variable (m : (ℓ : Loc Cert.KernelIdeal.nD Cert.KernelIdeal.τ Cert.KernelIdeal.sig) → Buf (Elt Ideal) ℓ) (g : Dev Cert.KernelIdeal.nD → PrngReg)
variable (X : FVec Ideal ⟨2, ![512, 256]⟩ .f32) (I : IVec ⟨2, ![512, 1]⟩ 32) (E : FVec Ideal ⟨3, ![32, 256, 512]⟩ .f32)
variable (hX : ∀ c : Dev Cert.KernelIdeal.nD, m ((c.tc : Thread Cert.KernelIdeal.nD Cert.KernelIdeal.τ).loc Cert.KernelIdeal.main_arg0) = X)
variable (hI : ∀ c : Dev Cert.KernelIdeal.nD, m ((c.tc : Thread Cert.KernelIdeal.nD Cert.KernelIdeal.τ).loc Cert.KernelIdeal.main_arg2) = I)
variable (hE : ∀ c : Dev Cert.KernelIdeal.nD, m ((c.tc : Thread Cert.KernelIdeal.nD Cert.KernelIdeal.τ).loc Cert.KernelIdeal.main_arg3)
  = Layout.block ⟨3, ![2, 256, 512]⟩ ⟨3, ![32, 256, 512]⟩ 0 16 c E)

include hX hI hE in
/-- What device `c` computes from its copies of the tokens and of the experts' numbers and from its block of the weights is
    what the reference computes from the whole. -/
theorem outAt_eq (c : Dev Cert.KernelIdeal.nD) : outAt m g c = Cert.ReferenceProof.out X I E := by
  funext i
  obtain ⟨t, f, rfl⟩ : ∃ t f, i = ix2 t f := ⟨i 0, i 1, eq_ix2 i⟩
  refine (out_value X I (fun d => m ((d.tc : Thread Cert.KernelIdeal.nD Cert.KernelIdeal.τ).loc Cert.KernelIdeal.main_arg3)) _ (fun d => ⟨m ((d.tc : Thread Cert.KernelIdeal.nD Cert.KernelIdeal.τ).loc Cert.KernelIdeal.cc0_scratch0), ?_⟩) c t f
    (fun n => if h : n < 32 then Cert.ReferenceProof.prod X E t f ⟨n, h⟩ else 0) (fun d j => ?_)).trans ?_
  · show slotVal 0 (own m g d) = _
    unfold own
    rw [xIn_eq, iIn_eq, wIn_eq, hX, hI]
  · have hd := d.isLt
    have hj := j.isLt
    have hd' : d.val < 16 := hd
    rw [dif_pos (by omega : 2 * d.val + j.val < 32)]
    refine Finset.sum_congr rfl fun k _ => congrArg (X (ix2 t k) * ·) ?_
    rw [hE d, Layout.block_apply]
    refine congrArg E (funext fun a => Fin.ext ?_)
    fin_cases a
    · show 2 * d.val + j.val = d.val * 2 + j.val; omega
    · rfl
    · rfl
  · rw [Cert.ReferenceProof.out_apply]
    refine Finset.sum_congr rfl fun e _ => ?_
    rw [dif_pos e.isLt]
    rfl

end Equal

/-- The kernel's result, on every device, is the reference's. -/
theorem same_value : algebraic_KernelIdeal_ReferenceIdeal := fun m g m' g' _ hm =>
  ⟨Cert.ReferenceProof.out (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun _ h c =>
      ⟨(h.1 c 4).trans ((finalA_out m g c).trans (outAt_eq m g _ _ _ (fun d => (hm d).1) (fun d => (hm d).2.2.1) (fun d => (hm d).2.2.2) c)),
        (h.1 c 0).trans (finalA_in m g c 0 (by decide)), (h.1 c 1).trans (finalA_in m g c 1 (by decide)),
        (h.1 c 2).trans (finalA_in m g c 2 (by decide)), (h.1 c 3).trans (finalA_in m g c 3 (by decide))⟩)
      (run_main m g),
    (θ_run _ _ _).mono (fun _ h => h 0) (Cert.ReferenceIdeal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, words_kept, same_value⟩

end Cert.Proof

end
